-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v92) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v25)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v25) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v94) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
-- ==== Pre_finite_qk.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x256x8x64 : Shape := ⟨4, ![16, 256, 8, 64]⟩
abbrev S16x256x32 : Shape := ⟨3, ![16, 256, 32]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S16x4096x8x32 : S_.BroadcastsInDim S16x4096x8x32 (![] : Fin 0 → Fin S16x4096x8x32.rank)
  reducesTo_S16x4096x8x32_S_d0_1_2_3 : S16x4096x8x32.ReducesTo [0, 1, 2, 3] S_
  bcast_S_S16x4096x32 : S_.BroadcastsInDim S16x4096x32 (![] : Fin 0 → Fin S16x4096x32.rank)
  reducesTo_S16x4096x32_S_d0_1_2 : S16x4096x32.ReducesTo [0, 1, 2] S_
  bcast_S_S16x256x8x64 : S_.BroadcastsInDim S16x256x8x64 (![] : Fin 0 → Fin S16x256x8x64.rank)
  reducesTo_S16x256x8x64_S_d0_1_2_3 : S16x256x8x64.ReducesTo [0, 1, 2, 3] S_
  bcast_S_S16x256x32 : S_.BroadcastsInDim S16x256x32 (![] : Fin 0 → Fin S16x256x32.rank)
  reducesTo_S16x256x32_S_d0_1_2 : S16x256x32.ReducesTo [0, 1, 2] S_

variable [Facts]

def fn_part1 {F : FTy → Type} [FloatOps F] (main_arg5 : FVec F S16x256x8x64 .f32) (main_arg6 : FVec F S16x256x32 .f32) (main_v8 : IVec S_ 1) (main_v12 : IVec S_ 1) (main_v15 : IVec S16x4096x32 1) (main_c_5 : IVec S_ 1) : IVec S_ 1 :=
  let main_v16 : IVec S_ 1 := (fun x v => Host.reduce IntOp.andi x v reducesTo_S16x4096x32_S_d0_1_2 h_S_) main_v15 main_c_5
  let main_v17 : IVec S_ 1 := andi main_v12 main_v16
  let main_v18 : IVec S_ 1 := andi main_v8 main_v17
  let main_v19 : FVec F S16x256x8x64 .f32 := Host.absf main_arg5
  let main_cst_6 : FVec F S_ .f32 := constant S_ .f32 0x7F800000#32
  let main_v20 : FVec F S16x256x8x64 .f32 := broadcastInDim S16x256x8x64 ![] bcast_S_S16x256x8x64 main_cst_6
  let main_v21 : IVec S16x256x8x64 1 := cmpf .olt main_v19 main_v20
  let main_c_7 : IVec S_ 1 := constantI S_ 1 1#1
  let main_v22 : IVec S_ 1 := (fun x v => Host.reduce IntOp.andi x v reducesTo_S16x256x8x64_S_d0_1_2_3 h_S_) main_v21 main_c_7
  let main_v23 : FVec F S16x256x32 .f32 := Host.absf main_arg6
  let main_cst_8 : FVec F S_ .f32 := constant S_ .f32 0x7F800000#32
  let main_v24 : FVec F S16x256x32 .f32 := broadcastInDim S16x256x32 ![] bcast_S_S16x256x32 main_cst_8
  let main_v25 : IVec S16x256x32 1 := cmpf .olt main_v23 main_v24
  let main_c_9 : IVec S_ 1 := constantI S_ 1 1#1
  let main_v26 : IVec S_ 1 := (fun x v => Host.reduce IntOp.andi x v reducesTo_S16x256x32_S_d0_1_2 h_S_) main_v25 main_c_9
  let main_v27 : IVec S_ 1 := andi main_v22 main_v26
  let main_v28 : IVec S_ 1 := andi main_v18 main_v27
  main_v28

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) (main_arg5 : FVec F S16x256x8x64 .f32) (main_arg6 : FVec F S16x256x32 .f32) (main_arg7 : FVec F S16x256x8x64 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x8x32 .f32 := Host.absf main_arg1
  let main_cst_0 : FVec F S_ .f32 := constant S_ .f32 0x7F800000#32
  let main_v5 : FVec F S16x4096x8x32 .f32 := broadcastInDim S16x4096x8x32 ![] bcast_S_S16x4096x8x32 main_cst_0
  let main_v6 : IVec S16x4096x8x32 1 := cmpf .olt main_v4 main_v5
  let main_c_1 : IVec S_ 1 := constantI S_ 1 1#1
  let main_v7 : IVec S_ 1 := (fun x v => Host.reduce IntOp.andi x v reducesTo_S16x4096x8x32_S_d0_1_2_3 h_S_) main_v6 main_c_1
  let main_v8 : IVec S_ 1 := andi main_v3 main_v7
  let main_v9 : FVec F S16x4096x8x64 .f32 := Host.absf main_arg2
  let main_cst_2 : FVec F S_ .f32 := constant S_ .f32 0x7F800000#32
  let main_v10 : FVec F S16x4096x8x64 .f32 := broadcastInDim S16x4096x8x64 ![] bcast_S_S16x4096x8x64 main_cst_2
  let main_v11 : IVec S16x4096x8x64 1 := cmpf .olt main_v9 main_v10
  let main_c_3 : IVec S_ 1 := constantI S_ 1 1#1
  let main_v12 : IVec S_ 1 := (fun x v => Host.reduce IntOp.andi x v reducesTo_S16x4096x8x64_S_d0_1_2_3 h_S_) main_v11 main_c_3
  let main_v13 : FVec F S16x4096x32 .f32 := Host.absf main_arg3
  let main_cst_4 : FVec F S_ .f32 := constant S_ .f32 0x7F800000#32
  let main_v14 : FVec F S16x4096x32 .f32 := broadcastInDim S16x4096x32 ![] bcast_S_S16x4096x32 main_cst_4
  let main_v15 : IVec S16x4096x32 1 := cmpf .olt main_v13 main_v14
  let main_c_5 : IVec S_ 1 := constantI S_ 1 1#1
  fn_part1 (F := F) main_arg5 main_arg6 main_v8 main_v12 main_v15 main_c_5
-- ==== Kernel.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x256x8x64 : Shape := ⟨4, ![16, 256, 8, 64]⟩
abbrev S16x256x32 : Shape := ⟨3, ![16, 256, 32]⟩
abbrev S16x4096x8x96 : Shape := ⟨4, ![16, 4096, 8, 96]⟩
abbrev S65536x8x96 : Shape := ⟨3, ![65536, 8, 96]⟩
abbrev S_ : Shape := ⟨0, ![]⟩
abbrev S65536x8x32 : Shape := ⟨3, ![65536, 8, 32]⟩
abbrev S65536x8x128 : Shape := ⟨3, ![65536, 8, 128]⟩
abbrev S65536x1024 : Shape := ⟨2, ![65536, 1024]⟩
abbrev S4096x1024 : Shape := ⟨2, ![4096, 1024]⟩
abbrev S69632x1024 : Shape := ⟨2, ![69632, 1024]⟩
abbrev S1024x69632 : Shape := ⟨2, ![1024, 69632]⟩
abbrev S65536x1x32 : Shape := ⟨3, ![65536, 1, 32]⟩
abbrev S65536x8x64 : Shape := ⟨3, ![65536, 8, 64]⟩
abbrev S4096x1x32 : Shape := ⟨3, ![4096, 1, 32]⟩
abbrev S4096x8x32 : Shape := ⟨3, ![4096, 8, 32]⟩
abbrev S4096x8x64 : Shape := ⟨3, ![4096, 8, 64]⟩
abbrev S4096x8x128 : Shape := ⟨3, ![4096, 8, 128]⟩
abbrev S65536x8x16 : Shape := ⟨3, ![65536, 8, 16]⟩
abbrev S65536x8x80 : Shape := ⟨3, ![65536, 8, 80]⟩
abbrev S65536x640 : Shape := ⟨2, ![65536, 640]⟩
abbrev S4096x8x16 : Shape := ⟨3, ![4096, 8, 16]⟩
abbrev S4096x8x80 : Shape := ⟨3, ![4096, 8, 80]⟩
abbrev S4096x640 : Shape := ⟨2, ![4096, 640]⟩
abbrev S69632x640 : Shape := ⟨2, ![69632, 640]⟩
abbrev S640x69632 : Shape := ⟨2, ![640, 69632]⟩
abbrev S65536x512 : Shape := ⟨2, ![65536, 512]⟩
abbrev S512x512 : Shape := ⟨2, ![512, 512]⟩
abbrev S4096x512 : Shape := ⟨2, ![4096, 512]⟩
abbrev S256x512 : Shape := ⟨2, ![256, 512]⟩
abbrev S320x4096 : Shape := ⟨2, ![320, 4096]⟩
abbrev S320x256 : Shape := ⟨2, ![320, 256]⟩
abbrev S512x256 : Shape := ⟨2, ![512, 256]⟩
abbrev S128x512 : Shape := ⟨2, ![128, 512]⟩
abbrev S256x128 : Shape := ⟨2, ![256, 128]⟩
abbrev S80x256 : Shape := ⟨2, ![80, 256]⟩
abbrev S512 : Shape := ⟨1, ![512]⟩
abbrev S1x512 : Shape := ⟨2, ![1, 512]⟩
abbrev S80x512 : Shape := ⟨2, ![80, 512]⟩
abbrev S64x512 : Shape := ⟨2, ![64, 512]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 55
  | .vmem => 12
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x256x8x64, .f32⟩
  | .hbm, ⟨6, _⟩ => ⟨S16x256x32, .f32⟩
  | .hbm, ⟨7, _⟩ => ⟨S16x256x8x64, .f32⟩
  | .hbm, ⟨8, _⟩ => ⟨S16x4096x8x96, .f32⟩
  | .hbm, ⟨9, _⟩ => ⟨S65536x8x96, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S65536x8x96, .f32⟩
  | .hbm, ⟨15, _⟩ => ⟨S65536x8x96, .f32⟩
  | .hbm, ⟨16, _⟩ => ⟨S_, .f32⟩
  | .hbm, ⟨17, _⟩ => ⟨S65536x8x32, .f32⟩
  | .hbm, ⟨18, _⟩ => ⟨S65536x8x128, .f32⟩
  | .hbm, ⟨19, _⟩ => ⟨S65536x1024, .f32⟩
  | .hbm, ⟨20, _⟩ => ⟨S_, .f32⟩
  | .hbm, ⟨21, _⟩ => ⟨S4096x1024, .f32⟩
  | .hbm, ⟨22, _⟩ => ⟨S69632x1024, .f32⟩
  | .hbm, ⟨23, _⟩ => ⟨S1024x69632, .f32⟩
  | .hbm, ⟨24, _⟩ => ⟨S1024x69632, .bf16⟩
  | .hbm, ⟨25, _⟩ => ⟨S65536x1x32, .f32⟩
  | .hbm, ⟨26, _⟩ => ⟨S65536x8x32, .f32⟩
  | .hbm, ⟨27, _⟩ => ⟨S65536x8x64, .f32⟩
  | .hbm, ⟨28, _⟩ => ⟨S_, .f32⟩
  | .hbm, ⟨29, _⟩ => ⟨S65536x8x32, .f32⟩
  | .hbm, ⟨30, _⟩ => ⟨S65536x8x128, .f32⟩
  | .hbm, ⟨31, _⟩ => ⟨S65536x1024, .f32⟩
  | .hbm, ⟨32, _⟩ => ⟨S4096x1x32, .f32⟩
  | .hbm, ⟨33, _⟩ => ⟨S4096x8x32, .f32⟩
  | .hbm, ⟨34, _⟩ => ⟨S4096x8x64, .f32⟩
  | .hbm, ⟨35, _⟩ => ⟨S_, .f32⟩
  | .hbm, ⟨36, _⟩ => ⟨S4096x8x32, .f32⟩
  | .hbm, ⟨37, _⟩ => ⟨S4096x8x128, .f32⟩
  | .hbm, ⟨38, _⟩ => ⟨S4096x1024, .f32⟩
  | .hbm, ⟨39, _⟩ => ⟨S69632x1024, .f32⟩
  | .hbm, ⟨40, _⟩ => ⟨S69632x1024, .bf16⟩
  | .hbm, ⟨41, _⟩ => ⟨S_, .f32⟩
  | .hbm, ⟨42, _⟩ => ⟨S65536x8x16, .f32⟩
  | .hbm, ⟨43, _⟩ => ⟨S65536x8x64, .f32⟩
  | .hbm, ⟨44, _⟩ => ⟨S65536x8x80, .f32⟩
  | .hbm, ⟨45, _⟩ => ⟨S65536x640, .f32⟩
  | .hbm, ⟨46, _⟩ => ⟨S_, .f32⟩
  | .hbm, ⟨47, _⟩ => ⟨S4096x8x16, .f32⟩
  | .hbm, ⟨48, _⟩ => ⟨S4096x8x64, .f32⟩
  | .hbm, ⟨49, _⟩ => ⟨S4096x8x80, .f32⟩
  | .hbm, ⟨50, _⟩ => ⟨S4096x640, .f32⟩
  | .hbm, ⟨51, _⟩ => ⟨S69632x640, .f32⟩
  | .hbm, ⟨52, _⟩ => ⟨S640x69632, .f32⟩
  | .hbm, ⟨53, _⟩ => ⟨S640x69632, .bf16⟩
  | .hbm, ⟨54, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S320x4096, .bf16⟩
  | .local _ .vmem, ⟨7, _⟩ => ⟨S320x4096, .bf16⟩
  | .local _ .vmem, ⟨8, _⟩ => ⟨S320x256, .bf16⟩
  | .local _ .vmem, ⟨9, _⟩ => ⟨S320x256, .bf16⟩
  | .local _ .vmem, ⟨10, _⟩ => ⟨S512x256, .bf16⟩
  | .local _ .vmem, ⟨11, _⟩ => ⟨S512x256, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.addi c256_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.addi c256_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S320x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S320x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x256x8x64 : Shape := ⟨4, ![16, 256, 8, 64]⟩
abbrev S16x256x32 : Shape := ⟨3, ![16, 256, 32]⟩
abbrev S16x4352x8x64 : Shape := ⟨4, ![16, 4352, 8, 64]⟩
abbrev S16x4352x32 : Shape := ⟨3, ![16, 4352, 32]⟩
abbrev S16x8x4096x4352 : Shape := ⟨4, ![16, 8, 4096, 4352]⟩
abbrev S16x4352x4096x8 : Shape := ⟨4, ![16, 4352, 4096, 8]⟩
abbrev S_ : Shape := ⟨0, ![]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S65536x512 : Shape := ⟨2, ![65536, 512]⟩

abbrev nBuf : Space → Nat
  | .hbm => 36
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x256x8x64, .f32⟩
  | .hbm, ⟨6, _⟩ => ⟨S16x256x32, .f32⟩
  | .hbm, ⟨7, _⟩ => ⟨S16x256x8x64, .f32⟩
  | .hbm, ⟨8, _⟩ => ⟨S16x4352x8x64, .f32⟩
  | .hbm, ⟨9, _⟩ => ⟨S16x4352x32, .f32⟩
  | .hbm, ⟨10, _⟩ => ⟨S16x4352x8x64, .f32⟩
  | .hbm, ⟨11, _⟩ => ⟨S16x8x4096x4352, .f32⟩
  | .hbm, ⟨12, _⟩ => ⟨S16x4352x4096x8, .f32⟩
  | .hbm, ⟨13, _⟩ => ⟨S16x8x4096x4352, .f32⟩
  | .hbm, ⟨14, _⟩ => ⟨S16x8x4096x4352, .f32⟩
  | .hbm, ⟨15, _⟩ => ⟨S_, .f32⟩
  | .hbm, ⟨16, _⟩ => ⟨S16x8x4096x4352, .f32⟩
  | .hbm, ⟨17, _⟩ => ⟨S16x8x4096x4352, .f32⟩
  | .hbm, ⟨18, _⟩ => ⟨S_, .f32⟩
  | .hbm, ⟨19, _⟩ => ⟨S16x8x4096, .f32⟩
  | .hbm, ⟨20, _⟩ => ⟨S_, .f32⟩
  | .hbm, ⟨21, _⟩ => ⟨S16x8x4096, .f32⟩
  | .hbm, ⟨22, _⟩ => ⟨S16x8x4096, .f32⟩
  | .hbm, ⟨23, _⟩ => ⟨S16x8x4096x1, .f32⟩
  | .hbm, ⟨24, _⟩ => ⟨S16x8x4096x4352, .f32⟩
  | .hbm, ⟨25, _⟩ => ⟨S16x8x4096x4352, .f32⟩
  | .hbm, ⟨26, _⟩ => ⟨S16x8x4096x4352, .f32⟩
  | .hbm, ⟨27, _⟩ => ⟨S_, .f32⟩
  | .hbm, ⟨28, _⟩ => ⟨S16x8x4096, .f32⟩
  | .hbm, ⟨29, _⟩ => ⟨S16x8x4096x1, .f32⟩
  | .hbm, ⟨30, _⟩ => ⟨S16x8x4096x4352, .f32⟩
  | .hbm, ⟨31, _⟩ => ⟨S16x8x4096x4352, .f32⟩
  | .hbm, ⟨32, _⟩ => ⟨S16x8x64x4096, .f32⟩
  | .hbm, ⟨33, _⟩ => ⟨S16x4096x8x64, .f32⟩
  | .hbm, ⟨34, _⟩ => ⟨S65536x512, .f32⟩
  | .hbm, ⟨35, _⟩ => ⟨S65536x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Ffn.lean ====
abbrev S16x4096x1024 : Shape := ⟨3, ![16, 4096, 1024]⟩
abbrev S16x256x1024 : Shape := ⟨3, ![16, 256, 1024]⟩
abbrev S16x9x1024 : Shape := ⟨3, ![16, 9, 1024]⟩
abbrev S1x9x1024 : Shape := ⟨3, ![1, 9, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S65536x1024 : Shape := ⟨2, ![65536, 1024]⟩
abbrev S4096x1024 : Shape := ⟨2, ![4096, 1024]⟩
abbrev S69632x1024 : Shape := ⟨2, ![69632, 1024]⟩
abbrev S17x9x1024 : Shape := ⟨3, ![17, 9, 1024]⟩
abbrev S1x1024 : Shape := ⟨2, ![1, 1024]⟩
abbrev S1024 : Shape := ⟨1, ![1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S16x256x1024, .f32⟩
  | .hbm, ⟨2, _⟩ => ⟨S16x9x1024, .f32⟩
  | .hbm, ⟨3, _⟩ => ⟨S1x9x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S65536x1024, .f32⟩
  | .hbm, ⟨8, _⟩ => ⟨S4096x1024, .f32⟩
  | .hbm, ⟨9, _⟩ => ⟨S69632x1024, .f32⟩
  | .hbm, ⟨10, _⟩ => ⟨S17x9x1024, .f32⟩
  | .hbm, ⟨11, _⟩ => ⟨S1x1024, .f32⟩
  | .hbm, ⟨12, _⟩ => ⟨S1024, .f32⟩
  | .hbm, ⟨13, _⟩ => ⟨S4x1024x5632, .bf16⟩
  | .hbm, ⟨14, _⟩ => ⟨S4x2816x1024, .bf16⟩
  | .hbm, ⟨15, _⟩ => ⟨S1x1024, .f32⟩
  | .hbm, ⟨16, _⟩ => ⟨S69632x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1024x1024, .f32⟩
  | .local _ .vmem, ⟨8, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16x4096x1024 : Shape := ⟨3, ![16, 4096, 1024]⟩
abbrev S16x256x1024 : Shape := ⟨3, ![16, 256, 1024]⟩
abbrev S16x9x1024 : Shape := ⟨3, ![16, 9, 1024]⟩
abbrev S1x9x1024 : Shape := ⟨3, ![1, 9, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x1024 : Shape := ⟨2, ![16, 1024]⟩
abbrev S16x4096x5632 : Shape := ⟨3, ![16, 4096, 5632]⟩
abbrev S16x4096x2816 : Shape := ⟨3, ![16, 4096, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S65536x1024 : Shape := ⟨2, ![65536, 1024]⟩
abbrev S4096x1024 : Shape := ⟨2, ![4096, 1024]⟩
abbrev S69632x1024 : Shape := ⟨2, ![69632, 1024]⟩

abbrev nBuf : Space → Nat
  | .hbm => 126
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x256x1024, .f32⟩
  | .hbm, ⟨2, _⟩ => ⟨S16x9x1024, .f32⟩
  | .hbm, ⟨3, _⟩ => ⟨S1x9x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1x1024, .f32⟩
  | .hbm, ⟨8, _⟩ => ⟨S1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S16x1x1024, .f32⟩
  | .hbm, ⟨30, _⟩ => ⟨S16x1024, .f32⟩
  | .hbm, ⟨31, _⟩ => ⟨S16x1x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x4096x1024, .f32⟩
  | .hbm, ⟨36, _⟩ => ⟨S16x4096x1024, .f32⟩
  | .hbm, ⟨37, _⟩ => ⟨S16x1x1024, .f32⟩
  | .hbm, ⟨38, _⟩ => ⟨S16x1024, .f32⟩
  | .hbm, ⟨39, _⟩ => ⟨S16x1x1024, .f32⟩
  | .hbm, ⟨40, _⟩ => ⟨S16x4096x1024, .f32⟩
  | .hbm, ⟨41, _⟩ => ⟨S16x4096x1024, .f32⟩
  | .hbm, ⟨42, _⟩ => ⟨S16x4096x5632, .f32⟩
  | .hbm, ⟨43, _⟩ => ⟨S16x4096x2816, .f32⟩
  | .hbm, ⟨44, _⟩ => ⟨S16x4096x2816, .f32⟩
  | .hbm, ⟨45, _⟩ => ⟨S16x4096x2816, .f32⟩
  | .hbm, ⟨46, _⟩ => ⟨S_, .f32⟩
  | .hbm, ⟨47, _⟩ => ⟨S16x4096x2816, .f32⟩
  | .hbm, ⟨48, _⟩ => ⟨S16x4096x2816, .f32⟩
  | .hbm, ⟨49, _⟩ => ⟨S_, .f32⟩
  | .hbm, ⟨50, _⟩ => ⟨S16x4096x2816, .f32⟩
  | .hbm, ⟨51, _⟩ => ⟨S16x4096x2816, .f32⟩
  | .hbm, ⟨52, _⟩ => ⟨S16x4096x2816, .f32⟩
  | .hbm, ⟨53, _⟩ => ⟨S16x4096x2816, .f32⟩
  | .hbm, ⟨54, _⟩ => ⟨S16x4096x2816, .f32⟩
  | .hbm, ⟨55, _⟩ => ⟨S16x4096x1024, .f32⟩
  | .hbm, ⟨56, _⟩ => ⟨S16x1x1024, .f32⟩
  | .hbm, ⟨57, _⟩ => ⟨S16x1024, .f32⟩
  | .hbm, ⟨58, _⟩ => ⟨S16x1x1024, .f32⟩
  | .hbm, ⟨59, _⟩ => ⟨S_, .f32⟩
  | .hbm, ⟨60, _⟩ => ⟨S16x1x1024, .f32⟩
  | .hbm, ⟨61, _⟩ => ⟨S16x1x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S1x1024, .f32⟩
  | .hbm, ⟨66, _⟩ => ⟨S1024, .f32⟩
  | .hbm, ⟨67, _⟩ => ⟨S1x1024x5632, .f32⟩
  | .hbm, ⟨68, _⟩ => ⟨S1024x5632, .f32⟩
  | .hbm, ⟨69, _⟩ => ⟨S1x2816x1024, .f32⟩
  | .hbm, ⟨70, _⟩ => ⟨S2816x1024, .f32⟩
  | .hbm, ⟨71, _⟩ => ⟨S16x256x1024, .f32⟩
  | .hbm, ⟨72, _⟩ => ⟨S_, .f32⟩
  | .hbm, ⟨73, _⟩ => ⟨S16x256, .f32⟩
  | .hbm, ⟨74, _⟩ => ⟨S16x256x1, .f32⟩
  | .hbm, ⟨75, _⟩ => ⟨S_, .f32⟩
  | .hbm, ⟨76, _⟩ => ⟨S16x256x1, .f32⟩
  | .hbm, ⟨77, _⟩ => ⟨S16x256x1, .f32⟩
  | .hbm, ⟨78, _⟩ => ⟨S_, .f32⟩
  | .hbm, ⟨79, _⟩ => ⟨S16x256x1, .f32⟩
  | .hbm, ⟨80, _⟩ => ⟨S16x256x1, .f32⟩
  | .hbm, ⟨81, _⟩ => ⟨S16x256x1, .f32⟩
  | .hbm, ⟨82, _⟩ => ⟨S16x256x1024, .f32⟩
  | .hbm, ⟨83, _⟩ => ⟨S16x256x1024, .f32⟩
  | .hbm, ⟨84, _⟩ => ⟨S1x1x1024, .f32⟩
  | .hbm, ⟨85, _⟩ => ⟨S16x256x1024, .f32⟩
  | .hbm, ⟨86, _⟩ => ⟨S16x256x1024, .f32⟩
  | .hbm, ⟨87, _⟩ => ⟨S1x1x1024, .f32⟩
  | .hbm, ⟨88, _⟩ => ⟨S1x1024, .f32⟩
  | .hbm, ⟨89, _⟩ => ⟨S1x1x1024, .f32⟩
  | .hbm, ⟨90, _⟩ => ⟨S_, .f32⟩
  | .hbm, ⟨91, _⟩ => ⟨S1x1x1024, .f32⟩
  | .hbm, ⟨92, _⟩ => ⟨S1x1x1024, .f32⟩
  | .hbm, ⟨93, _⟩ => ⟨S16x256x1024, .f32⟩
  | .hbm, ⟨94, _⟩ => ⟨S16x256x1024, .f32⟩
  | .hbm, ⟨95, _⟩ => ⟨S1x1x1024, .f32⟩
  | .hbm, ⟨96, _⟩ => ⟨S1x1024, .f32⟩
  | .hbm, ⟨97, _⟩ => ⟨S1x1x1024, .f32⟩
  | .hbm, ⟨98, _⟩ => ⟨S16x256x1024, .f32⟩
  | .hbm, ⟨99, _⟩ => ⟨S16x256x1024, .f32⟩
  | .hbm, ⟨100, _⟩ => ⟨S16x256x5632, .f32⟩
  | .hbm, ⟨101, _⟩ => ⟨S16x256x2816, .f32⟩
  | .hbm, ⟨102, _⟩ => ⟨S16x256x2816, .f32⟩
  | .hbm, ⟨103, _⟩ => ⟨S16x256x2816, .f32⟩
  | .hbm, ⟨104, _⟩ => ⟨S_, .f32⟩
  | .hbm, ⟨105, _⟩ => ⟨S16x256x2816, .f32⟩
  | .hbm, ⟨106, _⟩ => ⟨S16x256x2816, .f32⟩
  | .hbm, ⟨107, _⟩ => ⟨S_, .f32⟩
  | .hbm, ⟨108, _⟩ => ⟨S16x256x2816, .f32⟩
  | .hbm, ⟨109, _⟩ => ⟨S16x256x2816, .f32⟩
  | .hbm, ⟨110, _⟩ => ⟨S16x256x2816, .f32⟩
  | .hbm, ⟨111, _⟩ => ⟨S16x256x2816, .f32⟩
  | .hbm, ⟨112, _⟩ => ⟨S16x256x2816, .f32⟩
  | .hbm, ⟨113, _⟩ => ⟨S16x256x1024, .f32⟩
  | .hbm, ⟨114, _⟩ => ⟨S1x1x1024, .f32⟩
  | .hbm, ⟨115, _⟩ => ⟨S1x1024, .f32⟩
  | .hbm, ⟨116, _⟩ => ⟨S1x1x1024, .f32⟩
  | .hbm, ⟨117, _⟩ => ⟨S_, .f32⟩
  | .hbm, ⟨118, _⟩ => ⟨S1x1x1024, .f32⟩
  | .hbm, ⟨119, _⟩ => ⟨S1x1x1024, .f32⟩
  | .hbm, ⟨120, _⟩ => ⟨S16x256x1024, .f32⟩
  | .hbm, ⟨121, _⟩ => ⟨S16x256x1024, .f32⟩
  | .hbm, ⟨122, _⟩ => ⟨S16x256x1024, .f32⟩
  | .hbm, ⟨123, _⟩ => ⟨S65536x1024, .f32⟩
  | .hbm, ⟨124, _⟩ => ⟨S4096x1024, .f32⟩
  | .hbm, ⟨125, _⟩ => ⟨S69632x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_8 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Mix.lean ====
abbrev S16x4096x1024 : Shape := ⟨3, ![16, 4096, 1024]⟩
abbrev S16x4096x256 : Shape := ⟨3, ![16, 4096, 256]⟩
abbrev S16x4096x512 : Shape := ⟨3, ![16, 4096, 512]⟩
abbrev S16x9x1024 : Shape := ⟨3, ![16, 9, 1024]⟩
abbrev S4x3x256 : Shape := ⟨3, ![4, 3, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S_ : Shape := ⟨0, ![]⟩
abbrev S1x9x1024 : Shape := ⟨3, ![1, 9, 1024]⟩
abbrev S17x9x1024 : Shape := ⟨3, ![17, 9, 1024]⟩
abbrev S65536x256 : Shape := ⟨2, ![65536, 256]⟩
abbrev S4096x256 : Shape := ⟨2, ![4096, 256]⟩
abbrev S69632x256 : Shape := ⟨2, ![69632, 256]⟩
abbrev S65536x512 : Shape := ⟨2, ![65536, 512]⟩
abbrev S1x3x256 : Shape := ⟨3, ![1, 3, 256]⟩
abbrev S3x256 : Shape := ⟨2, ![3, 256]⟩
abbrev S65536x1024 : Shape := ⟨2, ![65536, 1024]⟩
abbrev S4096x1024 : Shape := ⟨2, ![4096, 1024]⟩
abbrev S69632x1024 : Shape := ⟨2, ![69632, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x256 : Shape := ⟨2, ![1024, 256]⟩
abbrev S8x256 : Shape := ⟨2, ![8, 256]⟩
abbrev S1024x512 : Shape := ⟨2, ![1024, 512]⟩
abbrev S1x1024x1024 : Shape := ⟨3, ![1, 1024, 1024]⟩
abbrev S1x256 : Shape := ⟨2, ![1, 256]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 43
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x256, .f32⟩
  | .hbm, ⟨3, _⟩ => ⟨S16x4096x256, .f32⟩
  | .hbm, ⟨4, _⟩ => ⟨S16x4096x256, .f32⟩
  | .hbm, ⟨5, _⟩ => ⟨S16x4096x512, .f32⟩
  | .hbm, ⟨6, _⟩ => ⟨S16x9x1024, .f32⟩
  | .hbm, ⟨7, _⟩ => ⟨S4x3x256, .f32⟩
  | .hbm, ⟨8, _⟩ => ⟨S4x1024x1024, .f32⟩
  | .hbm, ⟨9, _⟩ => ⟨S4x1024, .f32⟩
  | .hbm, ⟨10, _⟩ => ⟨S4x1024x5632, .f32⟩
  | .hbm, ⟨11, _⟩ => ⟨S4x2816x1024, .f32⟩
  | .hbm, ⟨12, _⟩ => ⟨S1024, .f32⟩
  | .hbm, ⟨13, _⟩ => ⟨S_, .f32⟩
  | .hbm, ⟨14, _⟩ => ⟨S1x9x1024, .f32⟩
  | .hbm, ⟨15, _⟩ => ⟨S17x9x1024, .f32⟩
  | .hbm, ⟨16, _⟩ => ⟨S65536x256, .f32⟩
  | .hbm, ⟨17, _⟩ => ⟨S65536x256, .bf16⟩
  | .hbm, ⟨18, _⟩ => ⟨S65536x256, .f32⟩
  | .hbm, ⟨19, _⟩ => ⟨S_, .f32⟩
  | .hbm, ⟨20, _⟩ => ⟨S4096x256, .f32⟩
  | .hbm, ⟨21, _⟩ => ⟨S69632x256, .f32⟩
  | .hbm, ⟨22, _⟩ => ⟨S16x4096x256, .f32⟩
  | .hbm, ⟨23, _⟩ => ⟨S65536x256, .f32⟩
  | .hbm, ⟨24, _⟩ => ⟨S_, .f32⟩
  | .hbm, ⟨25, _⟩ => ⟨S4096x256, .f32⟩
  | .hbm, ⟨26, _⟩ => ⟨S69632x256, .f32⟩
  | .hbm, ⟨27, _⟩ => ⟨S65536x512, .f32⟩
  | .hbm, ⟨28, _⟩ => ⟨S65536x512, .bf16⟩
  | .hbm, ⟨29, _⟩ => ⟨S1x3x256, .f32⟩
  | .hbm, ⟨30, _⟩ => ⟨S3x256, .f32⟩
  | .hbm, ⟨31, _⟩ => ⟨S4x1024x1024, .bf16⟩
  | .hbm, ⟨32, _⟩ => ⟨S65536x1024, .f32⟩
  | .hbm, ⟨33, _⟩ => ⟨S_, .f32⟩
  | .hbm, ⟨34, _⟩ => ⟨S4096x1024, .f32⟩
  | .hbm, ⟨35, _⟩ => ⟨S69632x1024, .f32⟩
  | .hbm, ⟨36, _⟩ => ⟨S1x1024, .f32⟩
  | .hbm, ⟨37, _⟩ => ⟨S1024, .f32⟩
  | .hbm, ⟨38, _⟩ => ⟨S4x1024x5632, .bf16⟩
  | .hbm, ⟨39, _⟩ => ⟨S4x2816x1024, .bf16⟩
  | .hbm, ⟨40, _⟩ => ⟨S1x1024, .f32⟩
  | .hbm, ⟨41, _⟩ => ⟨S1x1024, .f32⟩
  | .hbm, ⟨42, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S1024x512, .bf16⟩
  | .local _ .vmem, ⟨18, _⟩ => ⟨S1024x512, .bf16⟩
  | .local _ .vmem, ⟨19, _⟩ => ⟨S3x256, .f32⟩
  | .local _ .vmem, ⟨20, _⟩ => ⟨S1x1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8703_i32 : BitVec 32 := 8703#32
  let v2 : BitVec 32 := Scalar.minsi v1 c8703_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S16x4096x1024 : Shape := ⟨3, ![16, 4096, 1024]⟩
abbrev S16x4096x256 : Shape := ⟨3, ![16, 4096, 256]⟩
abbrev S16x4096x512 : Shape := ⟨3, ![16, 4096, 512]⟩
abbrev S16x9x1024 : Shape := ⟨3, ![16, 9, 1024]⟩
abbrev S4x3x256 : Shape := ⟨3, ![4, 3, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x3x256 : Shape := ⟨3, ![1, 3, 256]⟩
abbrev S3x256 : Shape := ⟨2, ![3, 256]⟩
abbrev S_ : Shape := ⟨0, ![]⟩
abbrev S16x1x256 : Shape := ⟨3, ![16, 1, 256]⟩
abbrev S1x256 : Shape := ⟨2, ![1, 256]⟩
abbrev S256 : Shape := ⟨1, ![256]⟩
abbrev S16x4095x256 : Shape := ⟨3, ![16, 4095, 256]⟩
abbrev S1x1x256 : Shape := ⟨3, ![1, 1, 256]⟩
abbrev S1x1024x1024 : Shape := ⟨3, ![1, 1024, 1024]⟩
abbrev S1024x1024 : Shape := ⟨2, ![1024, 1024]⟩
abbrev S16x1x1024 : Shape := ⟨3, ![16, 1, 1024]⟩
abbrev S16x1024 : Shape := ⟨2, ![16, 1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S65536x1024 : Shape := ⟨2, ![65536, 1024]⟩

abbrev nBuf : Space → Nat
  | .hbm => 125
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x256, .f32⟩
  | .hbm, ⟨3, _⟩ => ⟨S16x4096x256, .f32⟩
  | .hbm, ⟨4, _⟩ => ⟨S16x4096x256, .f32⟩
  | .hbm, ⟨5, _⟩ => ⟨S16x4096x512, .f32⟩
  | .hbm, ⟨6, _⟩ => ⟨S16x9x1024, .f32⟩
  | .hbm, ⟨7, _⟩ => ⟨S4x3x256, .f32⟩
  | .hbm, ⟨8, _⟩ => ⟨S4x1024x1024, .f32⟩
  | .hbm, ⟨9, _⟩ => ⟨S4x1024, .f32⟩
  | .hbm, ⟨10, _⟩ => ⟨S4x1024x5632, .f32⟩
  | .hbm, ⟨11, _⟩ => ⟨S4x2816x1024, .f32⟩
  | .hbm, ⟨12, _⟩ => ⟨S1024, .f32⟩
  | .hbm, ⟨13, _⟩ => ⟨S1x3x256, .f32⟩
  | .hbm, ⟨14, _⟩ => ⟨S3x256, .f32⟩
  | .hbm, ⟨15, _⟩ => ⟨S16x4096x256, .f32⟩
  | .hbm, ⟨16, _⟩ => ⟨S_, .f32⟩
  | .hbm, ⟨17, _⟩ => ⟨S16x1x256, .f32⟩
  | .hbm, ⟨18, _⟩ => ⟨S1x256, .f32⟩
  | .hbm, ⟨19, _⟩ => ⟨S256, .f32⟩
  | .hbm, ⟨20, _⟩ => ⟨S16x4095x256, .f32⟩
  | .hbm, ⟨21, _⟩ => ⟨S16x4096x256, .f32⟩
  | .hbm, ⟨22, _⟩ => ⟨S1x1x256, .f32⟩
  | .hbm, ⟨23, _⟩ => ⟨S16x4096x256, .f32⟩
  | .hbm, ⟨24, _⟩ => ⟨S16x4096x256, .f32⟩
  | .hbm, ⟨25, _⟩ => ⟨S1x256, .f32⟩
  | .hbm, ⟨26, _⟩ => ⟨S256, .f32⟩
  | .hbm, ⟨27, _⟩ => ⟨S1x1x256, .f32⟩
  | .hbm, ⟨28, _⟩ => ⟨S16x4096x256, .f32⟩
  | .hbm, ⟨29, _⟩ => ⟨S16x4096x256, .f32⟩
  | .hbm, ⟨30, _⟩ => ⟨S16x4096x256, .f32⟩
  | .hbm, ⟨31, _⟩ => ⟨S1x256, .f32⟩
  | .hbm, ⟨32, _⟩ => ⟨S256, .f32⟩
  | .hbm, ⟨33, _⟩ => ⟨S16x4095x256, .f32⟩
  | .hbm, ⟨34, _⟩ => ⟨S16x4096x256, .f32⟩
  | .hbm, ⟨35, _⟩ => ⟨S1x1x256, .f32⟩
  | .hbm, ⟨36, _⟩ => ⟨S16x4096x256, .f32⟩
  | .hbm, ⟨37, _⟩ => ⟨S16x4096x256, .f32⟩
  | .hbm, ⟨38, _⟩ => ⟨S16x4096x256, .f32⟩
  | .hbm, ⟨39, _⟩ => ⟨S16x4096x256, .f32⟩
  | .hbm, ⟨40, _⟩ => ⟨S16x4096x1024, .f32⟩
  | .hbm, ⟨41, _⟩ => ⟨S1x1024x1024, .f32⟩
  | .hbm, ⟨42, _⟩ => ⟨S1024x1024, .f32⟩
  | .hbm, ⟨43, _⟩ => ⟨S16x4096x1024, .f32⟩
  | .hbm, ⟨44, _⟩ => ⟨S16x1x1024, .f32⟩
  | .hbm, ⟨45, _⟩ => ⟨S16x1024, .f32⟩
  | .hbm, ⟨46, _⟩ => ⟨S16x1x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S1x1024, .f32⟩
  | .hbm, ⟨51, _⟩ => ⟨S1024, .f32⟩
  | .hbm, ⟨52, _⟩ => ⟨S1x1024x5632, .f32⟩
  | .hbm, ⟨53, _⟩ => ⟨S1024x5632, .f32⟩
  | .hbm, ⟨54, _⟩ => ⟨S1x2816x1024, .f32⟩
  | .hbm, ⟨55, _⟩ => ⟨S2816x1024, .f32⟩
  | .hbm, ⟨56, _⟩ => ⟨S16x4096x1024, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x1, .f32⟩
  | .hbm, ⟨67, _⟩ => ⟨S16x4096x1024, .f32⟩
  | .hbm, ⟨68, _⟩ => ⟨S16x4096x1024, .f32⟩
  | .hbm, ⟨69, _⟩ => ⟨S1x1x1024, .f32⟩
  | .hbm, ⟨70, _⟩ => ⟨S16x4096x1024, .f32⟩
  | .hbm, ⟨71, _⟩ => ⟨S16x4096x1024, .f32⟩
  | .hbm, ⟨72, _⟩ => ⟨S16x1x1024, .f32⟩
  | .hbm, ⟨73, _⟩ => ⟨S16x1024, .f32⟩
  | .hbm, ⟨74, _⟩ => ⟨S16x1x1024, .f32⟩
  | .hbm, ⟨75, _⟩ => ⟨S_, .f32⟩
  | .hbm, ⟨76, _⟩ => ⟨S16x1x1024, .f32⟩
  | .hbm, ⟨77, _⟩ => ⟨S16x1x1024, .f32⟩
  | .hbm, ⟨78, _⟩ => ⟨S16x4096x1024, .f32⟩
  | .hbm, ⟨79, _⟩ => ⟨S16x4096x1024, .f32⟩
  | .hbm, ⟨80, _⟩ => ⟨S16x1x1024, .f32⟩
  | .hbm, ⟨81, _⟩ => ⟨S16x1024, .f32⟩
  | .hbm, ⟨82, _⟩ => ⟨S16x1x1024, .f32⟩
  | .hbm, ⟨83, _⟩ => ⟨S16x4096x1024, .f32⟩
  | .hbm, ⟨84, _⟩ => ⟨S16x4096x1024, .f32⟩
  | .hbm, ⟨85, _⟩ => ⟨S16x4096x5632, .f32⟩
  | .hbm, ⟨86, _⟩ => ⟨S16x4096x2816, .f32⟩
  | .hbm, ⟨87, _⟩ => ⟨S16x4096x2816, .f32⟩
  | .hbm, ⟨88, _⟩ => ⟨S16x4096x2816, .f32⟩
  | .hbm, ⟨89, _⟩ => ⟨S_, .f32⟩
  | .hbm, ⟨90, _⟩ => ⟨S16x4096x2816, .f32⟩
  | .hbm, ⟨91, _⟩ => ⟨S16x4096x2816, .f32⟩
  | .hbm, ⟨92, _⟩ => ⟨S_, .f32⟩
  | .hbm, ⟨93, _⟩ => ⟨S16x4096x2816, .f32⟩
  | .hbm, ⟨94, _⟩ => ⟨S16x4096x2816, .f32⟩
  | .hbm, ⟨95, _⟩ => ⟨S16x4096x2816, .f32⟩
  | .hbm, ⟨96, _⟩ => ⟨S16x4096x2816, .f32⟩
  | .hbm, ⟨97, _⟩ => ⟨S16x4096x2816, .f32⟩
  | .hbm, ⟨98, _⟩ => ⟨S16x4096x1024, .f32⟩
  | .hbm, ⟨99, _⟩ => ⟨S16x1x1024, .f32⟩
  | .hbm, ⟨100, _⟩ => ⟨S16x1024, .f32⟩
  | .hbm, ⟨101, _⟩ => ⟨S16x1x1024, .f32⟩
  | .hbm, ⟨102, _⟩ => ⟨S_, .f32⟩
  | .hbm, ⟨103, _⟩ => ⟨S16x1x1024, .f32⟩
  | .hbm, ⟨104, _⟩ => ⟨S16x1x1024, .f32⟩
  | .hbm, ⟨105, _⟩ => ⟨S16x4096x1024, .f32⟩
  | .hbm, ⟨106, _⟩ => ⟨S16x4096x1024, .f32⟩
  | .hbm, ⟨107, _⟩ => ⟨S16x4096x1024, .f32⟩
  | .hbm, ⟨108, _⟩ => ⟨S16x4096x1024, .f32⟩
  | .hbm, ⟨109, _⟩ => ⟨S_, .f32⟩
  | .hbm, ⟨110, _⟩ => ⟨S16x4096, .f32⟩
  | .hbm, ⟨111, _⟩ => ⟨S16x4096x1, .f32⟩
  | .hbm, ⟨112, _⟩ => ⟨S_, .f32⟩
  | .hbm, ⟨113, _⟩ => ⟨S16x4096x1, .f32⟩
  | .hbm, ⟨114, _⟩ => ⟨S16x4096x1, .f32⟩
  | .hbm, ⟨115, _⟩ => ⟨S_, .f32⟩
  | .hbm, ⟨116, _⟩ => ⟨S16x4096x1, .f32⟩
  | .hbm, ⟨117, _⟩ => ⟨S16x4096x1, .f32⟩
  | .hbm, ⟨118, _⟩ => ⟨S16x4096x1, .f32⟩
  | .hbm, ⟨119, _⟩ => ⟨S16x4096x1024, .f32⟩
  | .hbm, ⟨120, _⟩ => ⟨S16x4096x1024, .f32⟩
  | .hbm, ⟨121, _⟩ => ⟨S1x1x1024, .f32⟩
  | .hbm, ⟨122, _⟩ => ⟨S16x4096x1024, .f32⟩
  | .hbm, ⟨123, _⟩ => ⟨S16x4096x1024, .f32⟩
  | .hbm, ⟨124, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_0 : Ref sig .tc := ⟨.hbm, 57, rfl⟩
abbrev main_v43 : Ref sig .tc := ⟨.hbm, 58, rfl⟩
abbrev main_v44 : Ref sig .tc := ⟨.hbm, 59, rfl⟩
abbrev main_cst_1 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_4 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_5 : Ref sig .tc := ⟨.hbm, 109, rfl⟩
abbrev main_v82 : Ref sig .tc := ⟨.hbm, 110, rfl⟩
abbrev main_v83 : Ref sig .tc := ⟨.hbm, 111, rfl⟩
abbrev main_cst_6 : Ref sig .tc := ⟨.hbm, 112, rfl⟩
abbrev main_v84 : Ref sig .tc := ⟨.hbm, 113, rfl⟩
abbrev main_v85 : Ref sig .tc := ⟨.hbm, 114, rfl⟩
abbrev main_cst_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Tactic

/-! The run of the attention body on one grid point: from the six staged blocks held whole, to its return. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
def bodyRun (c : Dev nD) (i : grid0.Coords)
    (M3 : Memref sig .tc .vmem S512x512 .bf16) (h3 : M3.IsWhole) (M4 : Memref sig .tc .vmem S4096x512 .bf16) (h4 : M4.IsWhole)
    (M5 : Memref sig .tc .vmem S256x512 .bf16) (h5 : M5.IsWhole) (M6 : Memref sig .tc .vmem S320x4096 .bf16) (h6 : M6.IsWhole)
    (M7 : Memref sig .tc .vmem S320x256 .bf16) (h7 : M7.IsWhole) (M8 : Memref sig .tc .vmem S512x256 .bf16) (h8 : M8.IsWhole)
    (f3 : Bf (F := F) c M3) (f4 : Bf (F := F) c M4) (f5 : Bf (F := F) c M5) (f6 : Bf (F := F) c M6) (f7 : Bf (F := F) c M7) :
    { W : Bf (F := F) c M8 → Bf (F := F) c M8 //
      ∀ (f8 : Bf (F := F) c M8) (E : Set ℕ) (Q : PUnit → sProp 𝕄),
        iprop(pt c M3 f3 ∗ pt c M4 f4 ∗ pt c M5 f5 ∗ pt c M6 f6 ∗ pt c M7 f7 ∗ pt c M8 f8
          ∗ (iprop(pt c M3 f3 ∗ pt c M4 f4 ∗ pt c M5 f5 ∗ pt c M6 f6 ∗ pt c M7 f7 ∗ pt c M8 (W f8)) -∗ Q ⟨⟩))
        ⊢ wp frame (wpE (defs₀ (F := F)) Variants.none c none) E
            (cc0_attention i M3 h3 M4 h4 M5 h5 M6 h6 M7 h7 M8 h8) Q } := by
  refine ⟨?_, fun f8 E Q => ?run⟩
  case run =>
    iintro ⟨H3, H4, H5, H6, H7, H8, Hk⟩
    sl_exec_parts
    sl_step
    iapply Hk
    isplitl [H3]; · iexact H3
    isplitl [H4]; · iexact H4
    isplitl [H5]; · iexact H5
    isplitl [H6]; · iexact H6
    isplitl [H7]; · iexact H7
    iexact H8

end Cert.KernelIdeal.Attn

end
-- ==== Proof.Voc.lean ====
module

public import proofs.«01_k».proof.Proof.Gen.KernelIdeal.Frame
public import proofs.«01_k».proof.Proof.Gen.KernelIdeal.Skeleton

/-! The attention of one head over a run of key chunks, in the operations of the kernel and over any float instance:
the running maximum, the lagged accumulator, the ordinary online accumulator, and the four heads of one block. -/

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

section Head
variable (q : FVec F S128x512 .bf16) (K : ℕ → FVec F S256x128 .bf16) (V : ℕ → FVec F S80x256 .bf16)

/-- The scores of chunk `c`. -/
def sc (c : ℕ) : FVec F S256x512 .f32 :=
  matmul dot_S256x128_S128x512_S256x512_1_0_0_1_n_n none (K c) q (constant S256x512 .f32 0x00000000#32)
/-- The largest score of chunk `c`, per query. -/
def cmax (c : ℕ) : FVec F S1x512 .f32 :=
  shapeCast S1x512 (multiReduction .maximumf [0] S512 (sc q K c) 0xFF800000#32 reduces_S256x512_S512 (.inl rfl) rfl) shapeCasts_S512_S1x512
/-- The running maximum after chunk `c`. -/
def mx (c : ℕ) : FVec F S1x512 .f32 :=
  Nat.rec (cmax q K 0) (fun n m => maximumf m (cmax q K (n + 1))) c
/-- The weights of chunk `c` relative to `m`. -/
def prob (c : ℕ) (m : FVec F S1x512 .f32) : FVec F S256x512 .bf16 :=
  truncf .bf16 (exp2 (subf (sc q K c) (broadcastTo S256x512 m broadcasts_S1x512_S256x512))) bitsLt_bf16_f32
/-- The weighted values (and the sum of the weights, in the row of ones) of chunk `c` relative to `m`. -/
def pv (c : ℕ) (m : FVec F S1x512 .f32) : FVec F S80x512 .f32 :=
  matmul dot_S80x256_S256x512_S80x512_1_0_0_1_n_n none (V c) (prob q K c m) (constant S80x512 .f32 0x00000000#32)
/-- `acc` brought from the maximum `a` to the maximum `b`. -/
def resc (acc : FVec F S80x512 .f32) (a b : FVec F S1x512 .f32) : FVec F S80x512 .f32 :=
  mulf acc (broadcastTo S80x512 (exp2 (subf a b)) broadcasts_S1x512_S80x512)
/-- The maximum that the accumulator of the lagged arm stands at after chunk `c`. -/
def lagRef (c : ℕ) : FVec F S1x512 .f32 :=
  Nat.rec (mx q K 0) (fun n _ => mx q K n) c
/-- The lagged accumulator after chunk `c`. -/
def accL (c : ℕ) : FVec F S80x512 .f32 :=
  Nat.rec (pv q K V 0 (mx q K 0)) (fun n a => addf (resc a (lagRef q K n) (mx q K n)) (pv q K V (n + 1) (mx q K n))) c
/-- The ordinary online accumulator after chunk `c`. -/
def accO (c : ℕ) : FVec F S80x512 .f32 :=
  Nat.rec (pv q K V 0 (mx q K 0)) (fun n a => addf (resc a (mx q K n) (mx q K (n + 1))) (pv q K V (n + 1) (mx q K (n + 1)))) c

end Head

/-- The quotient of the weighted values by the sum of the weights. -/
def fin (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)
/-- Four heads side by side, queries down. -/
def heads (a : ℕ → FVec F S80x512 .f32) : FVec F S512x256 .bf16 :=
  truncf .bf16 (transpose S512x256 [1, 0] (concatenate S256x512 0
    [⟨S64x512, fin (a 0)⟩, ⟨S64x512, fin (a 1)⟩, ⟨S64x512, fin (a 2)⟩, ⟨S64x512, fin (a 3)⟩]
    concatenates_S64x512_S64x512_S64x512_S64x512_S256x512_d0) transposes_S256x512_p1_0_S512x256) bitsLt_bf16_f32

section Block
variable (x3 : Vec F S512x512 .bf16) (x4 : Vec F S4096x512 .bf16) (x5 : Vec F S256x512 .bf16)
  (x6 : Vec F S320x4096 .bf16) (x7 : Vec F S320x256 .bf16)

/-- The rows of head `h` in the block of queries. -/
abbrev rq (h : ℕ) : Rect S512x512 := Rect.unit ![128 * (h % 4), 0] S128x512.size
  (by intro a; fin_cases a <;> simp [S128x512, S512x512] <;> omega)
/-- The rows of a chunk and the columns of head `h` in the block of keys. -/
abbrev rk (h c : ℕ) : Rect S4096x512 := Rect.unit ![256 * (c % 16), 128 * (h % 4)] S256x128.size
  (by intro a; fin_cases a <;> simp [S256x128, S4096x512] <;> omega)
/-- The columns of head `h` in the block of context keys. -/
abbrev rkc (h : ℕ) : Rect S256x512 := Rect.unit ![0, 128 * (h % 4)] S256x128.size
  (by intro a; fin_cases a <;> simp [S256x128, S256x512] <;> omega)
/-- The rows of head `h` and the columns of a chunk in the block of values. -/
abbrev rv (h c : ℕ) : Rect S320x4096 := Rect.unit ![80 * (h % 4), 256 * (c % 16)] S80x256.size
  (by intro a; fin_cases a <;> simp [S80x256, S320x4096] <;> omega)
/-- The rows of head `h` in the block of context values. -/
abbrev rvc (h : ℕ) : Rect S320x256 := Rect.unit ![80 * (h % 4), 0] S80x256.size
  (by intro a; fin_cases a <;> simp [S80x256, S320x256] <;> omega)

/-- The queries of head `h`, one per column. -/
def qh (h : ℕ) : FVec F S128x512 .bf16 :=
  shapeCast S128x512 (fun j => x3 ((rq h).idx j) : Vec F S128x512 .bf16) shapeCasts_S128x512_S128x512
/-- The keys of head `h`: the context first, then the sixteen chunks of the sequence. -/
def kh (h c : ℕ) : FVec F S256x128 .bf16 :=
  Nat.rec (shapeCast S256x128 (fun j => x5 ((rkc h).idx j) : Vec F S256x128 .bf16) shapeCasts_S256x128_S256x128)
    (fun n _ => shapeCast S256x128 (fun j => x4 ((rk h n).idx j) : Vec F S256x128 .bf16) shapeCasts_S256x128_S256x128) c
/-- The values of head `h` in the same order, one row per component. -/
def vh (h c : ℕ) : FVec F S80x256 .bf16 :=
  Nat.rec (shapeCast S80x256 (fun j => x7 ((rvc h).idx j) : Vec F S80x256 .bf16) shapeCasts_S80x256_S80x256)
    (fun n _ => shapeCast S80x256 (fun j => x6 ((rv h n).idx j) : Vec F S80x256 .bf16) shapeCasts_S80x256_S80x256) c

/-- The lagged accumulator of head `h` over all chunks. -/
def lagAcc (h : ℕ) : FVec F S80x512 .f32 := accL (qh x3 h) (kh x4 x5 h) (vh x6 x7 h) 16
/-- The ordinary accumulator of head `h` over all chunks. -/
def ordAcc (h : ℕ) : FVec F S80x512 .f32 := accO (qh x3 h) (kh x4 x5 h) (vh x6 x7 h) 16
/-- The block that the lagged arm leaves. -/
def lagOut : FVec F S512x256 .bf16 := heads (lagAcc x3 x4 x5 x6 x7)
/-- The block that the ordinary arm leaves. -/
def ordOut : FVec F S512x256 .bf16 := heads (ordAcc x3 x4 x5 x6 x7)

/-- The step of head `h`'s maximum at chunk `n + 1`. -/
def stp (n h : ℕ) : FVec F S1x512 .f32 :=
  subf (cmax (qh x3 h) (kh x4 x5 h) (n + 1)) (mx (qh x3 h) (kh x4 x5 h) n)
/-- The largest step over the first `n + 1` of the pairs (chunk, head). -/
def jmp (n : ℕ) : FVec F S1x512 .f32 :=
  Nat.rec (stp x3 x4 x5 0 0) (fun i j => maximumf j (stp x3 x4 x5 ((i + 1) / 4) ((i + 1) % 4))) n
/-- The word of the test that the maximum jumps by more than 64. -/
def jumps : BitVec 1 :=
  Scalar.cmpi .ne (Scalar.extui (Scalar.xori (Scalar.cmpf .ole (k0_pay1 (jmp x3 x4 x5 63)) (Scalar.ofBits .f32 0x42800000#32)) 1#1) : BitVec 32) 0#32
/-- The block that the body leaves. -/
def out : FVec F S512x256 .bf16 :=
  if jumps x3 x4 x5 = 1#1 then ordOut x3 x4 x5 x6 x7 else lagOut x3 x4 x5 x6 x7

end Block

end Cert.KernelIdeal.Attn
-- ==== Proof.Bridge.lean ====
module

public import proofs.«01_k».proof.Proof.Body
public import proofs.«01_k».proof.Proof.Voc
public import Idealize.ShloMosaic.Lib.Pipeline.Regions
public import Idealize.ShloMosaic.Lib.VecWindow

/-! The two blocks that the body's run stores are the lagged and the ordinary online softmax of the staged blocks. -/

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

section
variable (c : Dev nD)
    (M3 : Memref sig .tc .vmem S512x512 .bf16) (M4 : Memref sig .tc .vmem S4096x512 .bf16)
    (M5 : Memref sig .tc .vmem S256x512 .bf16) (M6 : Memref sig .tc .vmem S320x4096 .bf16)
    (M7 : Memref sig .tc .vmem S320x256 .bf16)
    (f3 : Bf (F := F) c M3) (f4 : Bf (F := F) c M4) (f5 : Bf (F := F) c M5) (f6 : Bf (F := F) c M6) (f7 : Bf (F := F) c M7)

/-- The block stored first is the lagged one. -/
theorem lag_eq :
    k0_pay2 (bodyRun.sl.r_255 c M3 M4 M5 M6 M7 f3 f4 f5 f6 f7) (bodyRun.sl.r_256 c M3 M4 M5 M6 M7 f3 f4 f5 f6 f7)
      (bodyRun.sl.r_257 c M3 M4 M5 M6 M7 f3 f4 f5 f6 f7) (bodyRun.sl.r_258 c M3 M4 M5 M6 M7 f3 f4 f5 f6 f7)
    = lagOut (M3.view.read (Elt F) f3) (M4.view.read (Elt F) f4) (M5.view.read (Elt F) f5) (M6.view.read (Elt F) f6)
        (M7.view.read (Elt F) f7) := by
  chain_rfl

/-- The block stored over it, where the maximum jumps, is the ordinary one. -/
theorem ord_eq :
    k0_pay3 (bodyRun.sl.r_469 c M3 M4 M5 M6 M7 f3 f4 f5 f6 f7) (bodyRun.sl.r_470 c M3 M4 M5 M6 M7 f3 f4 f5 f6 f7)
      (bodyRun.sl.r_471 c M3 M4 M5 M6 M7 f3 f4 f5 f6 f7) (bodyRun.sl.r_472 c M3 M4 M5 M6 M7 f3 f4 f5 f6 f7)
    = ordOut (M3.view.read (Elt F) f3) (M4.view.read (Elt F) f4) (M5.view.read (Elt F) f5) (M6.view.read (Elt F) f6)
        (M7.view.read (Elt F) f7) := by
  chain_rfl

/-- The test is the one over the staged blocks. -/
theorem jumps_eq :
    bodyRun.sl.v1358 c M3 M4 M5 f3 f4 f5
    = jumps (M3.view.read (Elt F) f3) (M4.view.read (Elt F) f4) (M5.view.read (Elt F) f5) := by
  chain_rfl

end

variable (c : Dev nD) (i : grid0.Coords)
    (M3 : Memref sig .tc .vmem S512x512 .bf16) (h3 : M3.IsWhole) (M4 : Memref sig .tc .vmem S4096x512 .bf16) (h4 : M4.IsWhole)
    (M5 : Memref sig .tc .vmem S256x512 .bf16) (h5 : M5.IsWhole) (M6 : Memref sig .tc .vmem S320x4096 .bf16) (h6 : M6.IsWhole)
    (M7 : Memref sig .tc .vmem S320x256 .bf16) (h7 : M7.IsWhole) (M8 : Memref sig .tc .vmem S512x256 .bf16) (h8 : M8.IsWhole)
    (f3 : Bf (F := F) c M3) (f4 : Bf (F := F) c M4) (f5 : Bf (F := F) c M5) (f6 : Bf (F := F) c M6) (f7 : Bf (F := F) c M7)
    (f8 : Bf (F := F) c M8)

/-- What the body leaves in the result's block. -/
theorem read_run : M8.view.read (Elt F) ((bodyRun c i M3 h3 M4 h4 M5 h5 M6 h6 M7 h7 M8 h8 f3 f4 f5 f6 f7).1 f8)
    = out (M3.view.read (Elt F) f3) (M4.view.read (Elt F) f4) (M5.view.read (Elt F) f5) (M6.view.read (Elt F) f6)
        (M7.view.read (Elt F) f7) := by
  unfold out
  rw [← jumps_eq, ← lag_eq, ← ord_eq]
  dsimp only [bodyRun]
  split
  · exact View.read_writes_full _ _ _ _ _
  · exact View.read_writes_full _ _ _ _ _

end Cert.KernelIdeal.Attn
-- ==== Proof.Run.lean ====
module

public import proofs.«01_k».proof.Proof.Bridge

/-! The frame of the attention: the body over the staged blocks, the launch over the grid, and the run of the program. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body, from its five operand blocks and the result's block at anything, to the result's block at `out`. -/
theorem sound_kernel (c : Dev nD) (E : Set ℕ) (i : grid0.Coords)
    (M3 : Memref sig .tc .vmem S512x512 .bf16) (h3 : M3.IsWhole) (M4 : Memref sig .tc .vmem S4096x512 .bf16) (h4 : M4.IsWhole)
    (M5 : Memref sig .tc .vmem S256x512 .bf16) (h5 : M5.IsWhole) (M6 : Memref sig .tc .vmem S320x4096 .bf16) (h6 : M6.IsWhole)
    (M7 : Memref sig .tc .vmem S320x256 .bf16) (h7 : M7.IsWhole) (M8 : Memref sig .tc .vmem S512x256 .bf16) (h8 : M8.IsWhole)
    (x3 : Vec F S512x512 .bf16) (x4 : Vec F S4096x512 .bf16) (x5 : Vec F S256x512 .bf16) (x6 : Vec F S320x4096 .bf16)
    (x7 : Vec F S320x256 .bf16) (Q : PUnit → sProp 𝕄) :
    iprop(owns c M3 fullShare x3 ∗ owns c M4 fullShare x4 ∗ owns c M5 fullShare x5 ∗ owns c M6 fullShare x6
        ∗ owns c M7 fullShare x7 ∗ (∃ d, owns c M8 fullShare d)
        ∗ (iprop(owns c M3 fullShare x3 ∗ owns c M4 fullShare x4 ∗ owns c M5 fullShare x5 ∗ owns c M6 fullShare x6
            ∗ owns c M7 fullShare x7 ∗ owns c M8 fullShare (out x3 x4 x5 x6 x7)) -∗ Q ⟨⟩))
      ⊢ wp frame (wpE (defs₀ (F := F)) Variants.none c none) E (cc0_attention i M3 h3 M4 h4 M5 h5 M6 h6 M7 h7 M8 h8) Q := by
  unfold owns
  rw [h3.set_eq_univ, h4.set_eq_univ, h5.set_eq_univ, h6.set_eq_univ, h7.set_eq_univ, h8.set_eq_univ]
  iintro ⟨⟨%f3, %e3, H3⟩, ⟨%f4, %e4, H4⟩, ⟨%f5, %e5, H5⟩, ⟨%f6, %e6, H6⟩, ⟨%f7, %e7, H7⟩, ⟨%d, %f8, -, H8⟩, Hk⟩
  subst e3 e4 e5 e6 e7
  iapply ((bodyRun c i M3 h3 M4 h4 M5 h5 M6 h6 M7 h7 M8 h8 f3 f4 f5 f6 f7).2 f8 E Q)
  isplitl [H3]; · iexact H3
  isplitl [H4]; · iexact H4
  isplitl [H5]; · iexact H5
  isplitl [H6]; · iexact H6
  isplitl [H7]; · iexact H7
  isplitl [H8]; · iexact H8
  iintro ⟨H3, H4, H5, H6, H7, H8⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  · iexists ((bodyRun c i M3 h3 M4 h4 M5 h5 M6 h6 M7 h7 M8 h8 f3 f4 f5 f6 f7).1 f8)
    isplitr
    · ipureintro; exact read_run c i M3 h3 M4 h4 M5 h5 M6 h6 M7 h7 M8 h8 f3 f4 f5 f6 f7 f8
    iexact H8

variable (m : (ℓ : Loc nD τ sig) → Buf (Elt F) ℓ) (ρ : Dev nD → PrngReg)

/-- What the region's run tracks: the operand blocks where they are, the result's block at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q w := Pipeline.shareOf spec0 w
  owed _ := 0

theorem after0 (c : Dev nD) (t) : (dats m 0 c).after 0 t = iblk m c 0 t := by dsimp only [dats]
theorem after1 (c : Dev nD) (t) : (dats m 0 c).after 1 t = iblk m c 1 t := by dsimp only [dats]
theorem after2 (c : Dev nD) (t) : (dats m 0 c).after 2 t = iblk m c 2 t := by dsimp only [dats]
theorem after3 (c : Dev nD) (t) : (dats m 0 c).after 3 t = iblk m c 3 t := by dsimp only [dats]
theorem after4 (c : Dev nD) (t) : (dats m 0 c).after 4 t = iblk m c 4 t := by dsimp only [dats]
theorem after5 (c : Dev nD) (t) : (dats m 0 c).after 5 t
    = out (iblk m c 0 t) (iblk m c 1 t) (iblk m c 2 t) (iblk m c 3 t) (iblk m c 4 t) := by dsimp only [dats]

theorem before0 (c : Dev nD) (t) (d) : (dats m 0 c).before 0 t d = iblk m c 0 t := before0_0_of m (dats m 0 c) rfl (after0 m c) t d
theorem before1 (c : Dev nD) (t) (d) : (dats m 0 c).before 1 t d = iblk m c 1 t := before0_1_of m (dats m 0 c) rfl (after1 m c) t d
theorem before2 (c : Dev nD) (t) (d) : (dats m 0 c).before 2 t d = iblk m c 2 t := before0_2_of m (dats m 0 c) rfl (after2 m c) t d
theorem before3 (c : Dev nD) (t) (d) : (dats m 0 c).before 3 t d = iblk m c 3 t := before0_3_of m (dats m 0 c) rfl (after3 m c) t d
theorem before4 (c : Dev nD) (t) (d) : (dats m 0 c).before 4 t d = iblk m c 4 t := before0_4_of m (dats m 0 c) rfl (after4 m c) t d

/-- The body's precondition at point `t`, window by window. -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d)) ∗ (∃ d, owns c (st0_1 t) fullShare ((dats m 0 c).before 1 t d))
    ∗ (∃ d, owns c (st0_2 t) fullShare ((dats m 0 c).before 2 t d)) ∗ (∃ d, owns c (st0_3 t) fullShare ((dats m 0 c).before 3 t d))
    ∗ (∃ d, owns c (st0_4 t) fullShare ((dats m 0 c).before 4 t d)) ∗ (∃ d, owns c (st0_5 t) fullShare ((dats m 0 c).before 5 t d)))
/-- The body's postcondition at point `t`, window by window. -/
def bodyPost (c : Dev nD) (t : Fin cfg0.N) : sProp 𝕄 :=
  iprop((dats m 0 c).Φ t.succ ∗ (dats m 0 c).owesAt () t.succ
    ∗ owns c (st0_0 t) fullShare ((dats m 0 c).after 0 t) ∗ owns c (st0_1 t) fullShare ((dats m 0 c).after 1 t)
    ∗ owns c (st0_2 t) fullShare ((dats m 0 c).after 2 t) ∗ owns c (st0_3 t) fullShare ((dats m 0 c).after 3 t)
    ∗ owns c (st0_4 t) fullShare ((dats m 0 c).after 4 t) ∗ owns c (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%_, H0⟩, ⟨%_, H1⟩, ⟨%_, H2⟩, ⟨%_, H3⟩, ⟨%_, H4⟩, ⟨%d, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats m 0 c) (defs₀ (F := F)) Variants.none () Set.univ := fun t => by
  rw [bigSep_W0, bigSep_W0]; exact sound_body m c t

set_option backward.isDefEq.respectTransparency.types false in
/-- The program runs; its arrays end at what the region leaves, its semaphores at zero. -/
theorem run_main :
    θ_run (defs (F := F)) (onTc (τ := τ) (main (F := F))) ⟨m, fun _ => 0, ρ⟩
      (fun r => Pipeline.FramePost cfgs (dats m) 0 (V m) r ∧ r.2.sem = fun _ => 0) :=
  Pipeline.θ_run_frame_shared cfgs (dats m) 0 launch₀0 (defs₀ (F := F)) Variants.none m ρ main
    (hbody := fun c => (body_obligation m c).loose) (hq := fun _ _ _ => rfl) (howed := fun _ _ => rfl) (V := V m)
    (hmain := hmain m Variants.none) (hA := fun _ _ => rfl) (hΦ := fun _ _ => rfl)
    (Q' := fun r => Pipeline.FramePost cfgs (dats m) 0 (V m) r ∧ r.2.sem = fun _ => 0) (hQ' := fun _ h => h)

end Cert.KernelIdeal.Attn
-- ==== Proof.Host.lean ====
module

public import proofs.«01_k».proof.Proof.Gen.KernelIdeal.Frame
public import Idealize.ShloMosaic.Lib.Claim
public import Idealize.ShloMosaic.Lib.Pipeline.ValueKit
public import Idealize.ShloMosaic.Lib.Pointwise

/-! What the host hands to the attention: the packed queries, keys and values, read at an index. -/

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

section
variable {F : FTy → Type} [FloatOps F]
  (a0 : FVec F S16x4096x8x64 .f32) (a1 : FVec F S16x4096x8x32 .f32) (a2 : FVec F S16x4096x8x64 .f32)
  (a3 : FVec F S16x4096x32 .f32) (a4 : FVec F S16x4096x8x64 .f32) (a5 : FVec F S16x256x8x64 .f32)
  (a6 : FVec F S16x256x32 .f32) (a7 : FVec F S16x256x8x64 .f32)

/-- The factor of the queries: the attention's scale over the logarithm of two. -/
def qscale : FVec F S_ .f32 := Host.divf (constant S_ .f32 0x3DD105EC#32) (Host.log (constant S_ .f32 0x40000000#32))

/-- The packed queries, one column per token. -/
def packQ : FVec F S1024x69632 .bf16 :=
  truncf .bf16 (transpose S1024x69632 [1, 0] (concatenate S69632x1024 0
    [⟨S65536x1024, shapeCast S65536x1024 (concatenate S65536x8x128 2
        [⟨S65536x8x96, mulf (shapeCast S65536x8x96 (concatenate S16x4096x8x96 3 [⟨S16x4096x8x64, a0⟩, ⟨S16x4096x8x32, a1⟩]
            concatenates_S16x4096x8x64_S16x4096x8x32_S16x4096x8x96_d3) shapeCasts_S16x4096x8x96_S65536x8x96)
            (broadcastInDim S65536x8x96 ![] bcast_S_S65536x8x96 qscale)⟩,
         ⟨S65536x8x32, broadcastInDim S65536x8x32 ![] bcast_S_S65536x8x32 (constant S_ .f32 0x00000000#32)⟩]
        concatenates_S65536x8x96_S65536x8x32_S65536x8x128_d2) shapeCasts_S65536x8x128_S65536x1024⟩,
     ⟨S4096x1024, broadcastInDim S4096x1024 ![] bcast_S_S4096x1024 (constant S_ .f32 0x00000000#32)⟩]
    concatenates_S65536x1024_S4096x1024_S69632x1024_d0) transposes_S69632x1024_S1024x69632_1_0) bitsLt_bf16_f32

/-- The packed keys, one row per token: the sequence's tokens first, then the context's. -/
def packK : FVec F S69632x1024 .bf16 :=
  truncf .bf16 (concatenate S69632x1024 0
    [⟨S65536x1024, shapeCast S65536x1024 (concatenate S65536x8x128 2
        [⟨S65536x8x64, shapeCast S65536x8x64 a2 shapeCasts_S16x4096x8x64_S65536x8x64⟩,
         ⟨S65536x8x32, broadcastInDim S65536x8x32 ![0, 1, 2] bcast_S65536x1x32_S65536x8x32_0_1_2 (shapeCast S65536x1x32 a3 shapeCasts_S16x4096x32_S65536x1x32)⟩,
         ⟨S65536x8x32, broadcastInDim S65536x8x32 ![] bcast_S_S65536x8x32 (constant S_ .f32 0x00000000#32)⟩]
        concatenates_S65536x8x64_S65536x8x32_S65536x8x32_S65536x8x128_d2) shapeCasts_S65536x8x128_S65536x1024⟩,
     ⟨S4096x1024, shapeCast S4096x1024 (concatenate S4096x8x128 2
        [⟨S4096x8x64, shapeCast S4096x8x64 a5 shapeCasts_S16x256x8x64_S4096x8x64⟩,
         ⟨S4096x8x32, broadcastInDim S4096x8x32 ![0, 1, 2] bcast_S4096x1x32_S4096x8x32_0_1_2 (shapeCast S4096x1x32 a6 shapeCasts_S16x256x32_S4096x1x32)⟩,
         ⟨S4096x8x32, broadcastInDim S4096x8x32 ![] bcast_S_S4096x8x32 (constant S_ .f32 0x00000000#32)⟩]
        concatenates_S4096x8x64_S4096x8x32_S4096x8x32_S4096x8x128_d2) shapeCasts_S4096x8x128_S4096x1024⟩]
    concatenates_S65536x1024_S4096x1024_S69632x1024_d0) bitsLt_bf16_f32

/-- The packed values, one column per token, each head's rows followed by rows of ones. -/
def packV : FVec F S640x69632 .bf16 :=
  truncf .bf16 (transpose S640x69632 [1, 0] (concatenate S69632x640 0
    [⟨S65536x640, shapeCast S65536x640 (concatenate S65536x8x80 2
        [⟨S65536x8x64, shapeCast S65536x8x64 a4 shapeCasts_S16x4096x8x64_S65536x8x64⟩,
         ⟨S65536x8x16, broadcastInDim S65536x8x16 ![] bcast_S_S65536x8x16 (constant S_ .f32 0x3F800000#32)⟩]
        concatenates_S65536x8x64_S65536x8x16_S65536x8x80_d2) shapeCasts_S65536x8x80_S65536x640⟩,
     ⟨S4096x640, shapeCast S4096x640 (concatenate S4096x8x80 2
        [⟨S4096x8x64, shapeCast S4096x8x64 a7 shapeCasts_S16x256x8x64_S4096x8x64⟩,
         ⟨S4096x8x16, broadcastInDim S4096x8x16 ![] bcast_S_S4096x8x16 (constant S_ .f32 0x3F800000#32)⟩]
        concatenates_S4096x8x64_S4096x8x16_S4096x8x80_d2) shapeCasts_S4096x8x80_S4096x640⟩]
    concatenates_S65536x640_S4096x640_S69632x640_d0) transposes_S69632x640_S640x69632_1_0) bitsLt_bf16_f32

end

section
variable {F : FTy → Type} [FloatOps F] (m : (ℓ : Loc nD τ sig) → Buf (Elt F) ℓ) (c : Dev nD)

set_option maxHeartbeats 4000000 in
theorem V_q : V m c main_v12 = packQ (m ((c : Thread nD τ).loc main_arg0)) (m ((c : Thread nD τ).loc main_arg1)) := by
  unfold V; after_results; try rfl
set_option maxHeartbeats 4000000 in
theorem V_k : V m c main_v26 = packK (m ((c : Thread nD τ).loc main_arg2)) (m ((c : Thread nD τ).loc main_arg3))
    (m ((c : Thread nD τ).loc main_arg5)) (m ((c : Thread nD τ).loc main_arg6)) := by
  unfold V; after_results; try rfl
set_option maxHeartbeats 4000000 in
theorem V_v : V m c main_v37 = packV (m ((c : Thread nD τ).loc main_arg4)) (m ((c : Thread nD τ).loc main_arg7)) := by
  unfold V; after_results; try rfl

end

section Read
variable
  (a0 : FVec Ideal S16x4096x8x64 .f32) (a1 : FVec Ideal S16x4096x8x32 .f32) (a2 : FVec Ideal S16x4096x8x64 .f32)
  (a3 : FVec Ideal S16x4096x32 .f32) (a4 : FVec Ideal S16x4096x8x64 .f32) (a5 : FVec Ideal S16x256x8x64 .f32)
  (a6 : FVec Ideal S16x256x32 .f32) (a7 : FVec Ideal S16x256x8x64 .f32)

/-- A sequence token's query: the head's two parts, scaled, and zeros. -/
theorem packQ_apply (b : Fin 16) (s : Fin 4096) (h : Fin 8) (e : Fin 128) :
    packQ a0 a1 (ix2 ⟨128 * h + e, by omega⟩ ⟨4096 * b + s, by omega⟩) =
      if _ : e.val < 96 then (if h3 : e.val < 64 then a0 (ix4 b s h ⟨e, h3⟩) else a1 (ix4 b s h ⟨e - 64, by omega⟩)) * qscale (F := Ideal) ix0
      else 0 := by
  pointwise [packQ]
  rw [dif_pos (show 4096 * b.val + s.val < 65536 by omega)]

/-- A sequence token's key: the head's part, the part the heads share, and zeros. -/
theorem packKx_apply (b : Fin 16) (s : Fin 4096) (h : Fin 8) (e : Fin 128) :
    packK a2 a3 a5 a6 (ix2 ⟨4096 * b + s, by omega⟩ ⟨128 * h + e, by omega⟩) =
      if h3 : e.val < 64 then a2 (ix4 b s h ⟨e, h3⟩) else if h4 : e.val - 64 < 32 then a3 (ix3 b s ⟨e - 64, h4⟩) else 0 := by
  pointwise [packK]
  rw [dif_pos (show 4096 * b.val + s.val < 65536 by omega)]

/-- A context token's key. -/
theorem packKc_apply (t : Fin 69632) (b : Fin 16) (s : Fin 256) (ht : t.val - 65536 = 256 * b + s) (ht' : ¬ t.val < 65536)
    (h : Fin 8) (e : Fin 128) :
    packK a2 a3 a5 a6 (ix2 t ⟨128 * h + e, by omega⟩) =
      if h3 : e.val < 64 then a5 (ix4 b s h ⟨e, h3⟩) else if h4 : e.val - 64 < 32 then a6 (ix3 b s ⟨e - 64, h4⟩) else 0 := by
  have hb' : (t.val - 65536) / 256 < 16 := by clear ht; omega
  have hs' : (t.val - 65536) % 256 < 256 := Nat.mod_lt _ (by decide)
  obtain rfl : b = ⟨(t.val - 65536) / 256, hb'⟩ := Fin.ext (by simp only []; omega)
  obtain rfl : s = ⟨(t.val - 65536) % 256, hs'⟩ := Fin.ext (by simp only []; omega)
  pointwise [packK]
  rw [dif_neg ht']

/-- A sequence token's value, a row. -/
theorem packVx_apply (b : Fin 16) (s : Fin 4096) (h : Fin 8) (e : Fin 80) :
    packV a4 a7 (ix2 ⟨80 * h + e, by omega⟩ ⟨4096 * b + s, by omega⟩) =
      if h3 : e.val < 64 then a4 (ix4 b s h ⟨e, h3⟩) else 1 := by
  pointwise [packV]
  rw [dif_pos (show 4096 * b.val + s.val < 65536 by omega)]

/-- A context token's value, a row. -/
theorem packVc_apply (t : Fin 69632) (b : Fin 16) (s : Fin 256) (ht : t.val - 65536 = 256 * b + s) (ht' : ¬ t.val < 65536)
    (h : Fin 8) (e : Fin 80) :
    packV a4 a7 (ix2 ⟨80 * h + e, by omega⟩ t) =
      if h3 : e.val < 64 then a7 (ix4 b s h ⟨e, h3⟩) else 1 := by
  have hb' : (t.val - 65536) / 256 < 16 := by clear ht; omega
  have hs' : (t.val - 65536) % 256 < 256 := Nat.mod_lt _ (by decide)
  obtain rfl : b = ⟨(t.val - 65536) / 256, hb'⟩ := Fin.ext (by simp only []; omega)
  obtain rfl : s = ⟨(t.val - 65536) % 256, hs'⟩ := Fin.ext (by simp only []; omega)
  pointwise [packV]
  rw [dif_neg ht']

end Read

end Cert.KernelIdeal.Attn
-- ==== Proof.Softmax.lean ====
module

public import proofs.«01_k».proof.Proof.Voc
public import Idealize.ShloMosaic.Lib.Pipeline.ValueKit
public import Idealize.ShloMosaic.Lib.Pointwise

/-! At the exact numbers, both arms of the kernel leave the softmax-weighted mean of the values. -/

@[expose] public section

set_option maxRecDepth 16384

noncomputable section

open Idealize.ShloMosaic Idealize.ShloMosaic.TcCoe
open Idealize.SL Idealize.SL.Sem

namespace Cert.Softmax

/-- The mean of `W`, weighted by the softmax of the scores `S`. -/
def att {ι : Type} [Fintype ι] (S : ι → ℝ) (W : ι → EReal) : EReal :=
  ∑ j, W j * ((Real.exp (S j) / ∑ i, Real.exp (S i) : ℝ) : EReal)

/-- The mean does not depend on the order of the keys. -/
theorem att_equiv {ι κ : Type} [Fintype ι] [Fintype κ] (e : ι ≃ κ) (S : ι → ℝ) (W : ι → EReal) (S' : κ → ℝ) (W' : κ → EReal)
    (hS : ∀ j, S' (e j) = S j) (hW : ∀ j, W' (e j) = W j) : att S W = att S' W' := by
  have h : ∑ i, Real.exp (S i) = ∑ i, Real.exp (S' i) :=
    Fintype.sum_equiv e _ _ fun j => by rw [hS]
  refine Fintype.sum_equiv e _ _ fun j => ?_
  rw [hS, hW, h]

/-- A nonnegative real factor distributes over a sum of extended reals. -/
theorem sum_mul_nonneg {ι : Type} (s : Finset ι) (f : ι → EReal) {b : ℝ} (hb : 0 ≤ b) :
    (∑ j ∈ s, f j) * (b : EReal) = ∑ j ∈ s, f j * (b : EReal) := by
  classical
  induction s using Finset.induction_on with
  | empty => simp
  | insert a s ha ih =>
    rw [Finset.sum_insert ha, Finset.sum_insert ha,
      EReal.right_distrib_of_nonneg_of_ne_top (EReal.coe_nonneg.2 hb) (EReal.coe_ne_top b), ih]

/-- A sum of reals, read among the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

section Online
variable (T : ℕ → Fin 256 → ℝ) (W : ℕ → Fin 256 → EReal) (ρ : ℕ → ℝ) (A : ℕ → EReal)

/-- The online accumulator in closed form, whatever reals `ρ` it stands at. -/
theorem acc_closed (h0 : A 0 = ∑ r, W 0 r * (((2 : ℝ) ^ (T 0 r - ρ 0) : ℝ) : EReal))
    (hs : ∀ c, A (c + 1) = A c * (((2 : ℝ) ^ (ρ c - ρ (c + 1)) : ℝ) : EReal)
      + ∑ r, W (c + 1) r * (((2 : ℝ) ^ (T (c + 1) r - ρ (c + 1)) : ℝ) : EReal)) (c : ℕ) :
    A c = ∑ k ∈ Finset.range (c + 1), ∑ r, W k r * (((2 : ℝ) ^ (T k r - ρ c) : ℝ) : EReal) := by
  induction c with
  | zero => rw [h0]; simp
  | succ c ih =>
    rw [hs, ih, Finset.sum_range_succ _ (c + 1)]
    congr 1
    rw [sum_mul_nonneg _ _ (by positivity)]
    refine Finset.sum_congr rfl fun k _ => ?_
    rw [sum_mul_nonneg _ _ (by positivity)]
    refine Finset.sum_congr rfl fun r _ => ?_
    rw [mul_assoc, ← EReal.coe_mul, ← Real.rpow_add (by norm_num)]
    congr 3; ring

/-- The quotient of two online accumulators, of the values and of ones, is the softmax-weighted mean. -/
theorem quot_eq (D : ℕ → EReal) (n : ℕ) (h0 : A 0 = ∑ r, W 0 r * (((2 : ℝ) ^ (T 0 r - ρ 0) : ℝ) : EReal))
    (hs : ∀ c, A (c + 1) = A c * (((2 : ℝ) ^ (ρ c - ρ (c + 1)) : ℝ) : EReal)
      + ∑ r, W (c + 1) r * (((2 : ℝ) ^ (T (c + 1) r - ρ (c + 1)) : ℝ) : EReal))
    (d0 : D 0 = ∑ r, 1 * (((2 : ℝ) ^ (T 0 r - ρ 0) : ℝ) : EReal))
    (ds : ∀ c, D (c + 1) = D c * (((2 : ℝ) ^ (ρ c - ρ (c + 1)) : ℝ) : EReal)
      + ∑ r, 1 * (((2 : ℝ) ^ (T (c + 1) r - ρ (c + 1)) : ℝ) : EReal)) :
    Ideal.div (A n) (D n)
      = att (ι := Fin (n + 1) × Fin 256) (fun j => T j.1 j.2 * Real.log 2) (fun j => W j.1 j.2) := by
  have hA := acc_closed T W ρ A h0 hs n
  have hD := acc_closed T (fun _ _ => 1) ρ D d0 ds n
  have pe : ∀ k r, (2 : ℝ) ^ (T k r - ρ n) = Real.exp (T k r * Real.log 2) * (2 : ℝ) ^ (-ρ n) := fun k r => by
    rw [sub_eq_add_neg, Real.rpow_add (by norm_num), Real.rpow_def_of_pos (by norm_num) (T k r), mul_comm (Real.log 2)]
  set E : ℝ := ∑ i : Fin (n + 1) × Fin 256, Real.exp (T i.1 i.2 * Real.log 2) with hE
  have hEpos : 0 < E := Finset.sum_pos (fun i _ => Real.exp_pos _) ⟨(0, 0), Finset.mem_univ _⟩
  have hp : (0 : ℝ) < (2 : ℝ) ^ (-ρ n) := by positivity
  have hD' : D n = ((E * (2 : ℝ) ^ (-ρ n) : ℝ) : EReal) := by
    rw [hD, Finset.sum_range, hE, Fintype.sum_prod_type, Finset.sum_mul, coe_sum]
    refine Finset.sum_congr rfl fun k _ => ?_
    rw [Finset.sum_mul, coe_sum]
    refine Finset.sum_congr rfl fun r _ => ?_
    rw [one_mul, pe]
  have hne : D n ≠ 0 := by
    rw [hD']; exact_mod_cast (mul_pos hEpos hp).ne'
  rw [Ideal.div, if_neg hne, hA, hD', ← EReal.coe_inv, Finset.sum_range, att, Fintype.sum_prod_type,
    sum_mul_nonneg _ _ (by positivity)]
  refine Finset.sum_congr rfl fun k _ => ?_
  rw [sum_mul_nonneg _ _ (by positivity)]
  refine Finset.sum_congr rfl fun r _ => ?_
  rw [mul_assoc, ← EReal.coe_mul, pe]
  congr 2
  rw [← hE]
  field_simp

end Online

/-- The largest of finitely many reals, from minus infinity, is a real. -/
theorem fold_max_real {n : ℕ} (b : EReal) (hb : b = ⊥) (f : Fin (n + 1) → ℝ) :
    ∃ m : ℝ, Finset.fold max b (fun x => (f x : EReal)) Finset.univ = (m : EReal) := by
  have h1 : Finset.fold max b (fun x => (f x : EReal)) Finset.univ ≠ ⊤ := by
    refine ne_of_lt ((Finset.fold_max_lt _).2 ⟨?_, fun x _ => EReal.coe_lt_top _⟩)
    rw [hb]; exact bot_lt_top
  have h2 : Finset.fold max b (fun x => (f x : EReal)) Finset.univ ≠ ⊥ :=
    ne_of_gt ((Finset.lt_fold_max _).2 (.inr ⟨0, Finset.mem_univ _, EReal.bot_lt_coe _⟩))
  exact ⟨_, (EReal.coe_toReal h1 h2).symm⟩

end Cert.Softmax

namespace Cert.KernelIdeal.Attn

open Cert.KernelIdeal Cert.KernelIdeal.Gen Cert.Softmax

theorem negInf_eq : Ideal.ofBits FTy.f32 4286578688#32 = ⊥ := by
  simp [Ideal.ofBits, Ideal.ieee]

section Head
variable (q : FVec Ideal S128x512 .bf16) (K : ℕ → FVec Ideal S256x128 .bf16) (V : ℕ → FVec Ideal S80x256 .bf16)
  (Q : Fin 128 → Fin 512 → ℝ) (KK : ℕ → Fin 256 → Fin 128 → ℝ)
  (hq : ∀ e l, q (ix2 e l) = ((Q e l : ℝ) : EReal)) (hK : ∀ c r e, K c (ix2 r e) = ((KK c r e : ℝ) : EReal))

/-- The score of key `r` of chunk `c` for query `l`. -/
def score (c : ℕ) (r : Fin 256) (l : Fin 512) : ℝ := ∑ e, KK c r e * Q e l

include hq hK in
theorem sc_apply (c : ℕ) (r : Fin 256) (l : Fin 512) : sc q K c (ix2 r l) = ((score Q KK c r l : ℝ) : EReal) := by
  pointwise [sc]
  rw [score, coe_sum]
  refine Finset.sum_congr rfl fun e _ => ?_
  rw [hq, hK, EReal.coe_mul]

include hq hK in
theorem cmax_real (c : ℕ) (l : Fin 512) : ∃ m : ℝ, cmax q K c (ix2 0 l) = (m : EReal) := by
  have := fold_max_real _ negInf_eq (fun r => score Q KK c r l)
  pointwise [cmax]
  simp only [sc_apply q K Q KK hq hK]
  exact this

include hq hK in
theorem mx_real (l : Fin 512) (c : ℕ) : ∃ m : ℝ, mx q K c (ix2 0 l) = (m : EReal) := by
  induction c with
  | zero => exact cmax_real q K Q KK hq hK 0 l
  | succ c ih =>
    obtain ⟨a, ha⟩ := ih
    obtain ⟨b, hb⟩ := cmax_real q K Q KK hq hK (c + 1) l
    refine ⟨max a b, ?_⟩
    change maximumf (mx q K c) (cmax q K (c + 1)) (ix2 0 l) = _
    pointwise
    rw [ha, hb]
    exact (EReal.coe_strictMono.monotone.map_max).symm

theorem exp2_sub (a b : ℝ) : (FloatOps.exp2 ((a : EReal) - (b : EReal) : Ideal .f32) : Ideal .f32) = (((2 : ℝ) ^ (a - b) : ℝ) : EReal) := by
  rw [← EReal.coe_sub]; rfl

include hq hK in
theorem pv_apply (c : ℕ) (m : FVec Ideal S1x512 .f32) (i : Fin 80) (l : Fin 512) (ρ : ℝ) (hm : m (ix2 0 l) = (ρ : EReal)) :
    pv q K V c m (ix2 i l) = ∑ r, V c (ix2 i r) * (((2 : ℝ) ^ (score Q KK c r l - ρ) : ℝ) : EReal) := by
  pointwise [pv, prob]
  refine Finset.sum_congr rfl fun r _ => ?_
  rw [sc_apply q K Q KK hq hK, hm]
  exact congrArg _ (exp2_sub _ _)

theorem resc_apply (a : FVec Ideal S80x512 .f32) (m m' : FVec Ideal S1x512 .f32) (i : Fin 80) (l : Fin 512) (ρ ρ' : ℝ)
    (hm : m (ix2 0 l) = (ρ : EReal)) (hm' : m' (ix2 0 l) = (ρ' : EReal)) :
    resc a m m' (ix2 i l) = a (ix2 i l) * (((2 : ℝ) ^ (ρ - ρ') : ℝ) : EReal) := by
  pointwise [resc]
  rw [hm, hm']
  exact congrArg _ (exp2_sub _ _)

include hq hK in
/-- The quotient of the lagged accumulator. -/
theorem fin_accL (h1 : ∀ c r, V c (ix2 64 r) = (1 : EReal)) (i : Fin 64) (l : Fin 512) :
    fin (accL q K V 16) (ix2 i l)
      = att (ι := Fin 17 × Fin 256) (fun j => score Q KK j.1 j.2 l * Real.log 2) (fun j => V j.1 (ix2 ⟨i, by omega⟩ j.2)) := by
  choose M hM using mx_real q K Q KK hq hK l
  obtain ⟨ρ, h0, h1'⟩ : ∃ ρ : ℕ → ℝ, ρ 0 = M 0 ∧ ∀ c, ρ (c + 1) = M c := ⟨fun c => M (c - 1), rfl, fun _ => rfl⟩
  have hρ : ∀ c, lagRef q K c (ix2 0 l) = ((ρ c : ℝ) : EReal) := fun c => by
    cases c with
    | zero => rw [h0]; exact hM 0
    | succ c => rw [h1']; exact hM c
  have z : ∀ i : Fin 80, accL q K V 0 (ix2 i l) = ∑ r, V 0 (ix2 i r) * (((2 : ℝ) ^ (score Q KK 0 r l - ρ 0) : ℝ) : EReal) :=
    fun i => by rw [h0]; exact pv_apply q K V Q KK hq hK 0 _ i l _ (hM 0)
  have s : ∀ (i : Fin 80) (c : ℕ), accL q K V (c + 1) (ix2 i l) = accL q K V c (ix2 i l) * (((2 : ℝ) ^ (ρ c - ρ (c + 1)) : ℝ) : EReal)
      + ∑ r, V (c + 1) (ix2 i r) * (((2 : ℝ) ^ (score Q KK (c + 1) r l - ρ (c + 1)) : ℝ) : EReal) := fun i c => by
    rw [h1' c, ← pv_apply q K V Q KK hq hK (c + 1) _ i l _ (hM c), ← resc_apply _ _ _ i l _ _ (hρ c) (hM c)]
    rfl
  pointwise [fin]
  refine quot_eq (fun c r => score Q KK c r l) (fun c r => V c (ix2 ⟨i, by omega⟩ r)) ρ (fun c => accL q K V c (ix2 ⟨i, by omega⟩ l))
    (fun c => accL q K V c (ix2 64 l)) 16 (z _) (s _) ?_ ?_
  · rw [z]; simp only [h1]
  · intro c; rw [s]; simp only [h1]

include hq hK in
/-- The quotient of the ordinary accumulator. -/
theorem fin_accO (h1 : ∀ c r, V c (ix2 64 r) = (1 : EReal)) (i : Fin 64) (l : Fin 512) :
    fin (accO q K V 16) (ix2 i l)
      = att (ι := Fin 17 × Fin 256) (fun j => score Q KK j.1 j.2 l * Real.log 2) (fun j => V j.1 (ix2 ⟨i, by omega⟩ j.2)) := by
  choose M hM using mx_real q K Q KK hq hK l
  have z : ∀ i : Fin 80, accO q K V 0 (ix2 i l) = ∑ r, V 0 (ix2 i r) * (((2 : ℝ) ^ (score Q KK 0 r l - M 0) : ℝ) : EReal) :=
    fun i => pv_apply q K V Q KK hq hK 0 _ i l _ (hM 0)
  have s : ∀ (i : Fin 80) (c : ℕ), accO q K V (c + 1) (ix2 i l) = accO q K V c (ix2 i l) * (((2 : ℝ) ^ (M c - M (c + 1)) : ℝ) : EReal)
      + ∑ r, V (c + 1) (ix2 i r) * (((2 : ℝ) ^ (score Q KK (c + 1) r l - M (c + 1)) : ℝ) : EReal) := fun i c => by
    rw [← pv_apply q K V Q KK hq hK (c + 1) _ i l _ (hM (c + 1)), ← resc_apply _ _ _ i l _ _ (hM c) (hM (c + 1))]
    rfl
  pointwise [fin]
  refine quot_eq (fun c r => score Q KK c r l) (fun c r => V c (ix2 ⟨i, by omega⟩ r)) M (fun c => accO q K V c (ix2 ⟨i, by omega⟩ l))
    (fun c => accO q K V c (ix2 64 l)) 16 (z _) (s _) ?_ ?_
  · rw [z]; simp only [h1]
  · intro c; rw [s]; simp only [h1]

end Head

end Cert.KernelIdeal.Attn
-- ==== Proof.Block.lean ====
module

public import proofs.«01_k».proof.Proof.Softmax

/-! The block that the body leaves, at an index: the softmax-weighted mean over the context's keys and the sequence's. -/

@[expose] public section

set_option maxRecDepth 16384

noncomputable section

namespace Cert.KernelIdeal.Attn

open Cert.KernelIdeal Cert.KernelIdeal.Gen Cert.Softmax
open Idealize.ShloMosaic Idealize.ShloMosaic.TcCoe
open Idealize.SL Idealize.SL.Sem

/-- Head `h` takes 64 columns of the block. -/
theorem heads_apply (a : ℕ → FVec Ideal S80x512 .f32) (h : Fin 4) (d : Fin 64) (l : Fin 512) :
    heads a (ix2 l ⟨64 * h + d, by omega⟩) = fin (a h) (ix2 d l) := by
  obtain ⟨n, hn⟩ : ∃ n : Fin 256, n.val = 64 * h + d := ⟨⟨64 * h + d, by omega⟩, rfl⟩
  have e : (⟨64 * h.val + d.val, by omega⟩ : Fin 256) = n := Fin.ext hn.symm
  rw [e]
  have key : ∀ (k j : ℕ) (hk : k < 64), j = h.val → k = d.val → fin (a j) (ix2 ⟨k, hk⟩ l) = fin (a h) (ix2 d l) := by
    rintro _ _ hk rfl rfl; rfl
  pointwise [heads]
  split_ifs <;> exact key _ _ _ (by omega) (by omega)

variable (x3 : FVec Ideal S512x512 .bf16) (x4 : FVec Ideal S4096x512 .bf16) (x5 : FVec Ideal S256x512 .bf16)
  (x6 : FVec Ideal S320x4096 .bf16) (x7 : FVec Ideal S320x256 .bf16)

theorem qh_apply (h : Fin 4) (e : Fin 128) (l : Fin 512) : qh x3 h (ix2 e l) = x3 (ix2 ⟨128 * h + e, by omega⟩ l) := by
  pointwise [qh]
  exact congrArg x3 (by blk_ext)

theorem kh_zero (h : Fin 4) (r : Fin 256) (e : Fin 128) : kh x4 x5 h 0 (ix2 r e) = x5 (ix2 r ⟨128 * h + e, by omega⟩) := by
  pointwise [kh]
  exact congrArg x5 (by blk_ext)

theorem kh_succ (h : Fin 4) (c : ℕ) (r : Fin 256) (e : Fin 128) :
    kh x4 x5 h (c + 1) (ix2 r e) = x4 (ix2 ⟨256 * (c % 16) + r, by omega⟩ ⟨128 * h + e, by omega⟩) := by
  pointwise [kh]
  exact congrArg x4 (by blk_ext)

theorem vh_zero (h : Fin 4) (e : Fin 80) (r : Fin 256) : vh x6 x7 h 0 (ix2 e r) = x7 (ix2 ⟨80 * h + e, by omega⟩ r) := by
  pointwise [vh]
  exact congrArg x7 (by blk_ext)

theorem vh_succ (h : Fin 4) (c : ℕ) (e : Fin 80) (r : Fin 256) :
    vh x6 x7 h (c + 1) (ix2 e r) = x6 (ix2 ⟨80 * h + e, by omega⟩ ⟨256 * (c % 16) + r, by omega⟩) := by
  pointwise [vh]
  exact congrArg x6 (by blk_ext)

variable (Q : Fin 4 → Fin 128 → Fin 512 → ℝ) (KX : Fin 4 → Fin 4096 → Fin 128 → ℝ) (KC : Fin 4 → Fin 256 → Fin 128 → ℝ)

/-- The keys of one head in the body's order: the context, then the chunks. -/
def kk (X : Fin 4096 → Fin 128 → ℝ) (C : Fin 256 → Fin 128 → ℝ) (c : ℕ) (r : Fin 256) (e : Fin 128) : ℝ :=
  Nat.casesOn c (C r e) fun n => X ⟨256 * (n % 16) + r, by omega⟩ e

/-- The block at an index. -/
theorem out_apply
    (h3 : ∀ (h : Fin 4) (e : Fin 128) (l : Fin 512), x3 (ix2 ⟨128 * h.val + e.val, by omega⟩ l) = ((Q h e l : ℝ) : EReal))
    (h4 : ∀ (h : Fin 4) (k : Fin 4096) (e : Fin 128), x4 (ix2 k ⟨128 * h.val + e.val, by omega⟩) = ((KX h k e : ℝ) : EReal))
    (h5 : ∀ (h : Fin 4) (k : Fin 256) (e : Fin 128), x5 (ix2 k ⟨128 * h.val + e.val, by omega⟩) = ((KC h k e : ℝ) : EReal))
    (h6 : ∀ (h : Fin 4) (k : Fin 4096), x6 (ix2 ⟨80 * h.val + 64, by omega⟩ k) = (1 : EReal))
    (h7 : ∀ (h : Fin 4) (k : Fin 256), x7 (ix2 ⟨80 * h.val + 64, by omega⟩ k) = (1 : EReal))
    (h : Fin 4) (d : Fin 64) (l : Fin 512) :
    out (F := Ideal) x3 x4 x5 x6 x7 (ix2 l ⟨64 * h + d, by omega⟩)
      = att (ι := Fin 17 × Fin 256) (fun j => (∑ e, kk (KX h) (KC h) j.1 j.2 e * Q h e l) * Real.log 2)
          (fun j => vh (F := Ideal) x6 x7 h j.1 (ix2 ⟨d, by omega⟩ j.2)) := by
  have hq : ∀ e l, qh (F := Ideal) x3 h (ix2 e l) = ((Q h e l : ℝ) : EReal) := fun e l => (qh_apply x3 h e l).trans (h3 h e l)
  have hK : ∀ c r e, kh (F := Ideal) x4 x5 h c (ix2 r e) = ((kk (KX h) (KC h) c r e : ℝ) : EReal) := fun c r e => by
    cases c with
    | zero => exact (kh_zero x4 x5 h r e).trans (h5 h r e)
    | succ c => exact (kh_succ x4 x5 h c r e).trans (h4 h _ e)
  have h1 : ∀ c r, vh (F := Ideal) x6 x7 h c (ix2 64 r) = (1 : EReal) := fun c r => by
    cases c with
    | zero => exact (vh_zero x6 x7 h 64 r).trans (h7 h r)
    | succ c => exact (vh_succ x6 x7 h c 64 r).trans (h6 h _)
  unfold out
  split
  · exact (heads_apply _ h d l).trans (fin_accO _ _ _ _ _ hq hK h1 d l)
  · exact (heads_apply _ h d l).trans (fin_accL _ _ _ _ _ hq hK h1 d l)

end Cert.KernelIdeal.Attn
-- ==== Proof.Ref.lean ====
module

public import proofs.«01_k».proof.Proof.Gen.ReferenceIdeal.Read
public import proofs.«01_k».proof.Proof.Softmax
public import Idealize.ShloMosaic.Lib.Pipeline.ValueKit
public import Idealize.ShloMosaic.Lib.Pointwise
public import Idealize.ShloMosaic.PureOps.Ideal.Laws

/-! The reference at an index: the softmax-weighted mean of the values of all keys. -/

@[expose] public section

set_option maxRecDepth 16384

noncomputable section

open Idealize.ShloMosaic Idealize.ShloMosaic.TcCoe
open Idealize.SL Idealize.SL.Sem

namespace Cert.Softmax

/-- The attention's scale, as the programs write it. -/
def scale : ℝ := (Ideal.ofBits FTy.f32 0x3DD105EC#32).toReal

theorem scale_eq : Ideal.ofBits FTy.f32 0x3DD105EC#32 = ((scale : ℝ) : EReal) := by
  refine (EReal.coe_toReal ?_ ?_).symm <;> simp [Ideal.ofBits, Ideal.ieee, -EReal.coe_mul]

/-- The maximum of reals over a nonempty set, from minus infinity, is a real. -/
theorem fold_max_finset {ι : Type} (s : Finset ι) (hs : s.Nonempty) (f : ι → EReal) (hf : ∀ i, ∃ r : ℝ, f i = (r : EReal)) :
    ∃ m : ℝ, s.fold max ⊥ f = (m : EReal) := by
  obtain ⟨i, _, hi⟩ := Finset.exists_mem_eq_sup s hs f
  obtain ⟨r, hr⟩ := hf i
  exact ⟨r, (show s.fold max ⊥ f = s.sup f from rfl).trans (hi.trans hr)⟩

/-- A reduction by maximum of an array of reals is a real wherever it reduces something. -/
theorem reduce_max_real {φ : FTy} {s t u : Shape} {a : Fin s.rank} (x : FVec Ideal s φ) (hx : ∀ i, ∃ r : ℝ, x i = (r : EReal))
    (init : FVec Ideal u φ) (h' : s.ReducesTo [a] t) (h : s.Reduces [a] t) (hu : 0 < u.numel)
    (hi : init (Shape.Idx.first hu) = (⊥ : EReal)) (ha : 0 < s.size a) (j : t.Idx) :
    ∃ m : ℝ, Host.reduce (FloatOps.maximumf (F := Ideal) (φ := φ)) x init h' hu j = (m : EReal) := by
  rw [Host.reduce_eq_fold_single _ x init h' h hu j, hi]
  exact fold_max_finset _ ⟨⟨0, ha⟩, Finset.mem_univ _⟩ _ fun i => hx _

/-- Subtracting one number from every score changes nothing of the softmax. -/
theorem softmax_shift {ι : Type} [Fintype ι] [Nonempty ι] (S : ι → ℝ) (M : ℝ) (k : ι) :
    Ideal.div (Ideal.exp ((S k : EReal) - (M : EReal))) (0 + ∑ i, Ideal.exp ((S i : EReal) - (M : EReal)))
      = ((Real.exp (S k) / ∑ i, Real.exp (S i) : ℝ) : EReal) := by
  have hp : (0 : ℝ) < ∑ i, Real.exp (S i) := Finset.sum_pos (fun i _ => Real.exp_pos _) Finset.univ_nonempty
  have he : ∀ i, Ideal.exp ((S i : EReal) - (M : EReal)) = ((Real.exp (S i) * Real.exp (-M) : ℝ) : EReal) := fun i => by
    rw [← EReal.coe_sub, Ideal.exp_coe, sub_eq_add_neg, Real.exp_add]
  simp only [he]
  rw [zero_add, ← coe_sum, ← Finset.sum_mul, Ideal.div_coe (by positivity), ← EReal.coe_mul]
  congr 1
  have := Real.exp_pos (-M)
  field_simp

end Cert.Softmax

namespace Cert.ReferenceIdeal.Attn

open Cert.ReferenceIdeal Cert.ReferenceIdeal.Gen Cert.ReferenceIdeal.Read Cert.Softmax

section
variable
  (a0 : FVec Ideal S16x4096x8x64 .f32) (a1 : FVec Ideal S16x4096x8x32 .f32) (a2 : FVec Ideal S16x4096x8x64 .f32)
  (a3 : FVec Ideal S16x4096x32 .f32) (a4 : FVec Ideal S16x4096x8x64 .f32) (a5 : FVec Ideal S16x256x8x64 .f32)
  (a6 : FVec Ideal S16x256x32 .f32) (a7 : FVec Ideal S16x256x8x64 .f32)

theorem v0_apply (b : Fin 16) (k : Fin 4352) (h : Fin 8) (e : Fin 64) :
    val_main_v0 (F := Ideal) a2 a5 (ix4 b k h e) =
      if hk : k.val < 4096 then a2 (ix4 b ⟨k, hk⟩ h e) else a5 (ix4 b ⟨k - 4096, by omega⟩ h e) := by
  pointwise [val_main_v0]

theorem v1_apply (b : Fin 16) (k : Fin 4352) (e : Fin 32) :
    val_main_v1 (F := Ideal) a3 a6 (ix3 b k e) =
      if hk : k.val < 4096 then a3 (ix3 b ⟨k, hk⟩ e) else a6 (ix3 b ⟨k - 4096, by omega⟩ e) := by
  pointwise [val_main_v1]

theorem v2_apply (b : Fin 16) (k : Fin 4352) (h : Fin 8) (e : Fin 64) :
    val_main_v2 (F := Ideal) a4 a7 (ix4 b k h e) =
      if hk : k.val < 4096 then a4 (ix4 b ⟨k, hk⟩ h e) else a7 (ix4 b ⟨k - 4096, by omega⟩ h e) := by
  pointwise [val_main_v2]

theorem v8_apply (b : Fin 16) (s : Fin 4096) (h : Fin 8) (k : Fin 4352) :
    val_main_v8 (F := Ideal) a0 a1 a2 a3 a5 a6 (ix4 b h s k) =
      (∑ x, a0 (ix4 b s h x) * val_main_v0 (F := Ideal) a2 a5 (ix4 b k h x)
        + ∑ x, val_main_v1 (F := Ideal) a3 a6 (ix3 b k x) * a1 (ix4 b s h x)) * Ideal.ofBits FTy.f32 0x3DD105EC#32 := by
  pointwise [val_main_v8, val_main_v7, val_main_v6, val_main_v5, val_main_v4, val_main_v3, val_main_cst]

theorem v15_apply (b : Fin 16) (s : Fin 4096) (h : Fin 8) (k : Fin 4352) :
    val_main_v15 (F := Ideal) a0 a1 a2 a3 a5 a6 (ix4 b h s k) =
      Ideal.exp (val_main_v8 (F := Ideal) a0 a1 a2 a3 a5 a6 (ix4 b h s k)
          - max (Ideal.ofBits FTy.f32 0xFF800000#32) (val_main_v9 (F := Ideal) a0 a1 a2 a3 a5 a6 (ix3 b h s))) := by
  have e : idx_main_v12 (idx_main_v13 (ix4 b h s k)) = ix3 b h s :=
    funext fun a => Fin.ext (by match a with | ⟨0, _⟩ => rfl | ⟨1, _⟩ => rfl | ⟨2, _⟩ => rfl)
  rw [val_main_v15_apply, val_main_v14_apply, val_main_v13_apply, val_main_v12_apply, e, val_main_v11_apply, val_main_v10_apply,
    val_main_cst_1_apply]
  generalize val_main_v8 (F := Ideal) a0 a1 a2 a3 a5 a6 (ix4 b h s k) = x
  generalize val_main_v9 (F := Ideal) a0 a1 a2 a3 a5 a6 (ix3 b h s) = y
  rfl

theorem v19_apply (b : Fin 16) (s : Fin 4096) (h : Fin 8) (k : Fin 4352) :
    val_main_v19 (F := Ideal) a0 a1 a2 a3 a5 a6 (ix4 b h s k) =
      Ideal.div (Ideal.exp (val_main_v8 (F := Ideal) a0 a1 a2 a3 a5 a6 (ix4 b h s k)
          - max (Ideal.ofBits FTy.f32 0xFF800000#32) (val_main_v9 (F := Ideal) a0 a1 a2 a3 a5 a6 (ix3 b h s))))
        (0 + ∑ x, Ideal.exp (val_main_v8 (F := Ideal) a0 a1 a2 a3 a5 a6 (ix4 b h s x)
          - max (Ideal.ofBits FTy.f32 0xFF800000#32) (val_main_v9 (F := Ideal) a0 a1 a2 a3 a5 a6 (ix3 b h s)))) := by
  have e16 : ∀ k', idx_main_v16 (idx_main_v17 (idx_main_v18 (ix4 b h s k))) k' = ix4 b h s k' := fun k' =>
    funext fun a => Fin.ext (by match a with | ⟨0, _⟩ => rfl | ⟨1, _⟩ => rfl | ⟨2, _⟩ => rfl | ⟨3, _⟩ => rfl)
  rw [val_main_v19_apply, val_main_v18_apply, val_main_v17_apply, val_main_v16_apply, val_main_cst_2_apply, v15_apply]
  simp only [e16, v15_apply, Ideal.ofBits_def, Ideal.ofBits_zero_f32, Ideal.hostDivf_def]

theorem v23_apply (b : Fin 16) (s : Fin 4096) (h : Fin 8) (d : Fin 64) :
    val_main_v23 (F := Ideal) a0 a1 a2 a3 a4 a5 a6 a7 (ix2 ⟨4096 * b + s, by omega⟩ ⟨64 * h + d, by omega⟩) =
      ∑ x, val_main_v2 (F := Ideal) a4 a7 (ix4 b x h d) * val_main_v19 (F := Ideal) a0 a1 a2 a3 a5 a6 (ix4 b h s x) := by
  pointwise [val_main_v23, val_main_v22, val_main_v21, val_main_v20]

end

section
variable
  (A0 : S16x4096x8x64.Idx → ℝ) (A1 : S16x4096x8x32.Idx → ℝ) (A2 : S16x4096x8x64.Idx → ℝ)
  (A3 : S16x4096x32.Idx → ℝ) (a4 : FVec Ideal S16x4096x8x64 .f32) (A5 : S16x256x8x64.Idx → ℝ)
  (A6 : S16x256x32.Idx → ℝ) (a7 : FVec Ideal S16x256x8x64 .f32)

/-- A key's part of one head: the sequence's tokens first, then the context's. -/
def kn (b : Fin 16) (h : Fin 8) (k : Fin 4352) (e : Fin 64) : ℝ :=
  if hk : k.val < 4096 then A2 (ix4 b ⟨k, hk⟩ h e) else A5 (ix4 b ⟨k - 4096, by omega⟩ h e)

/-- A key's part that the heads share. -/
def kr (b : Fin 16) (k : Fin 4352) (e : Fin 32) : ℝ :=
  if hk : k.val < 4096 then A3 (ix3 b ⟨k, hk⟩ e) else A6 (ix3 b ⟨k - 4096, by omega⟩ e)

/-- A value of one head. -/
def vv (b : Fin 16) (h : Fin 8) (k : Fin 4352) (d : Fin 64) : EReal :=
  if hk : k.val < 4096 then a4 (ix4 b ⟨k, hk⟩ h d) else a7 (ix4 b ⟨k - 4096, by omega⟩ h d)

/-- The scaled score of a key for a query. -/
def rscore (b : Fin 16) (s : Fin 4096) (h : Fin 8) (k : Fin 4352) : ℝ :=
  (∑ x, A0 (ix4 b s h x) * kn A2 A5 b h k x + ∑ x, kr A3 A6 b k x * A1 (ix4 b s h x)) * scale

theorem v8_real (b : Fin 16) (s : Fin 4096) (h : Fin 8) (k : Fin 4352) :
    val_main_v8 (F := Ideal) (fun i => (A0 i : EReal)) (fun i => (A1 i : EReal)) (fun i => (A2 i : EReal)) (fun i => (A3 i : EReal))
      (fun i => (A5 i : EReal)) (fun i => (A6 i : EReal)) (ix4 b h s k) = ((rscore A0 A1 A2 A3 A5 A6 b s h k : ℝ) : EReal) := by
  rw [v8_apply, scale_eq, rscore, EReal.coe_mul, EReal.coe_add, coe_sum, coe_sum]
  congr 2
  · refine Finset.sum_congr rfl fun x _ => ?_
    rw [v0_apply, EReal.coe_mul, kn]; split <;> rfl
  · refine Finset.sum_congr rfl fun x _ => ?_
    rw [v1_apply, EReal.coe_mul, kr]; split <;> rfl

/-- The reference's result, at an index. -/
theorem value (b : Fin 16) (s : Fin 4096) (h : Fin 8) (d : Fin 64) :
    val_main_v23 (F := Ideal) (fun i => (A0 i : EReal)) (fun i => (A1 i : EReal)) (fun i => (A2 i : EReal)) (fun i => (A3 i : EReal)) a4
      (fun i => (A5 i : EReal)) (fun i => (A6 i : EReal)) a7 (ix2 ⟨4096 * b + s, by omega⟩ ⟨64 * h + d, by omega⟩) =
      att (rscore A0 A1 A2 A3 A5 A6 b s h) fun k => vv a4 a7 b h k d := by
  have h8 : ∀ i, ∃ r : ℝ, val_main_v8 (F := Ideal) (fun i => (A0 i : EReal)) (fun i => (A1 i : EReal)) (fun i => (A2 i : EReal))
      (fun i => (A3 i : EReal)) (fun i => (A5 i : EReal)) (fun i => (A6 i : EReal)) i = (r : EReal) := fun i => by
    obtain ⟨b, h, s, k, rfl⟩ : ∃ (b : Fin 16) (h : Fin 8) (s : Fin 4096) (k : Fin 4352), i = ix4 b h s k := by idx_vars i; exact ⟨_, _, _, _, rfl⟩
    exact ⟨_, v8_real A0 A1 A2 A3 A5 A6 b s h k⟩
  obtain ⟨M, hM⟩ := reduce_max_real _ h8 (val_main_cst_0 (F := Ideal)) reducesTo_S16x8x4096x4352_S16x8x4096_d3
    (by decide) h_S_ Cert.KernelIdeal.Attn.negInf_eq (by decide) (ix3 b h s)
  rw [v23_apply, att]
  refine Finset.sum_congr rfl fun k _ => ?_
  rw [v19_apply, Cert.KernelIdeal.Attn.negInf_eq, max_eq_right bot_le, val_main_v9, hM]
  simp only [v8_real]
  rw [softmax_shift, v2_apply, vv]
end

end Cert.ReferenceIdeal.Attn
-- ==== Proof.Value.lean ====
module

public import proofs.«01_k».proof.Proof.Host
public import proofs.«01_k».proof.Proof.Run
public import proofs.«01_k».proof.Proof.Block
public import proofs.«01_k».proof.Proof.Ref

/-! The keys' order, and the blocks of a grid point as parts of the packed arrays. -/

@[expose] public section

set_option maxRecDepth 16384

noncomputable section

namespace Cert.KernelIdeal.Attn

open Cert.KernelIdeal Cert.KernelIdeal.Gen Cert.Softmax
open Idealize.ShloMosaic Idealize.ShloMosaic.TcCoe
open Idealize.SL Idealize.SL.Sem
open Idealize.ShloMosaic.Pipeline (Dat)

/-! ### A padded row and its scores -/

/-- A head's row: its own part, the part beside it, and zeros. -/
def pad (n : Fin 64 → ℝ) (r : Fin 32 → ℝ) (e : Fin 128) : ℝ :=
  if h3 : e.val < 64 then n ⟨e, h3⟩ else if h4 : e.val - 64 < 32 then r ⟨e - 64, h4⟩ else 0

/-- The factor that the host multiplies into the queries. -/
def qs : ℝ := scale / Real.log 2

theorem qscale_eq : qscale (F := Ideal) ix0 = ((qs : ℝ) : EReal) := by
  have h2 : Ideal.ofBits FTy.f32 0x40000000#32 = ((2 : ℝ) : EReal) := by
    simp [Ideal.ofBits, Ideal.ieee, -EReal.coe_mul]; norm_num
  pointwise [qscale]
  rw [h2, scale_eq, Ideal.log_coe, if_neg (by norm_num), Ideal.div_coe (Real.log_pos (by norm_num)).ne', ← EReal.coe_mul, qs,
    mul_one_div]

theorem score_sum (kn qn : Fin 64 → ℝ) (kr qr : Fin 32 → ℝ) :
    (∑ e, pad kn kr e * (pad qn qr e * qs)) * Real.log 2 = (∑ x, qn x * kn x + ∑ x, kr x * qr x) * scale := by
  have h2 : Real.log 2 ≠ 0 := (Real.log_pos (by norm_num)).ne'
  have hs : ∑ e, pad kn kr e * (pad qn qr e * qs) = (∑ x, qn x * kn x + ∑ x, kr x * qr x) * qs := by
    rw [show (∑ e, pad kn kr e * (pad qn qr e * qs)) = ∑ e : Fin (64 + (32 + 32)), pad kn kr e * (pad qn qr e * qs) from rfl,
      Fin.sum_univ_add, Fin.sum_univ_add, add_mul, Finset.sum_mul, Finset.sum_mul]
    have h0 : ∑ i : Fin 32, pad kn kr (Fin.natAdd 64 (Fin.natAdd 32 i)) * (pad qn qr (Fin.natAdd 64 (Fin.natAdd 32 i)) * qs) = 0 :=
      Finset.sum_eq_zero fun i _ => by simp [pad]
    rw [h0, add_zero]
    congr 1
    · refine Finset.sum_congr rfl fun i _ => ?_
      simp only [pad, Fin.val_castAdd, i.isLt, dif_pos, Fin.eta]
      ring
    · refine Finset.sum_congr rfl fun i _ => ?_
      simp [pad]
      ring
  rw [hs, qs]
  field_simp

/-! ### The order of the keys -/

/-- The place of a key among the reference's: the sequence's chunks first, then the context. -/
def place (j : Fin 17 × Fin 256) : Fin 4352 :=
  if _ : j.1.val = 0 then ⟨4096 + j.2, by omega⟩ else ⟨256 * (j.1.val - 1) + j.2, by omega⟩

/-- The two orders hold the same keys. -/
def order : Fin 17 × Fin 256 ≃ Fin 4352 :=
  Equiv.ofBijective place <| (Fintype.bijective_iff_injective_and_card _).2 ⟨fun x y h => by
    have h' := congrArg Fin.val h
    unfold place at h'
    refine Prod.ext (Fin.ext ?_) (Fin.ext ?_) <;> split_ifs at h' <;> simp only [] at h' <;> omega, by simp⟩

theorem order_apply (j : Fin 17 × Fin 256) : order j = place j := rfl

theorem place_zero (hn : 0 < 17) (r : Fin 256) (x : Fin 4352) (hx : x.val = 4096 + r.val) : place (⟨0, hn⟩, r) = x := by
  unfold place
  rw [dif_pos rfl]
  exact Fin.ext hx.symm

theorem place_succ (n : ℕ) (hn : n + 1 < 17) (r : Fin 256) (x : Fin 4352) (hx : x.val = 256 * n + r.val) : place (⟨n + 1, hn⟩, r) = x := by
  unfold place
  rw [dif_neg (Nat.succ_ne_zero n)]
  exact Fin.ext hx.symm

theorem kk_zero (X : Fin 4096 → Fin 128 → ℝ) (C : Fin 256 → Fin 128 → ℝ) (r : Fin 256) (e : Fin 128) : kk X C 0 r e = C r e := rfl

theorem kk_succ (X : Fin 4096 → Fin 128 → ℝ) (C : Fin 256 → Fin 128 → ℝ) (n : ℕ) (r : Fin 256) (e : Fin 128) :
    kk X C (n + 1) r e = X ⟨256 * (n % 16) + r, by omega⟩ e := rfl

section Keys
variable (A0 : S16x4096x8x64.Idx → ℝ) (A1 : S16x4096x8x32.Idx → ℝ) (A2 : S16x4096x8x64.Idx → ℝ) (A3 : S16x4096x32.Idx → ℝ)
  (a4 : FVec Ideal S16x4096x8x64 .f32) (A5 : S16x256x8x64.Idx → ℝ) (A6 : S16x256x32.Idx → ℝ) (a7 : FVec Ideal S16x256x8x64 .f32)
  (b : Fin 16) (s : Fin 4096) (h : Fin 8)

/-- A key's score in the body's order is the reference's at its place. -/
theorem score_place (j : Fin 17 × Fin 256) :
    Cert.ReferenceIdeal.Attn.rscore A0 A1 A2 A3 A5 A6 b s h (place j)
      = (∑ e, kk (fun k => pad (fun x => A2 (ix4 b k h x)) fun x => A3 (ix3 b k x)) (fun k => pad (fun x => A5 (ix4 b k h x)) fun x => A6 (ix3 b k x))
          j.1 j.2 e * (pad (fun x => A0 (ix4 b s h x)) (fun x => A1 (ix4 b s h x)) e * qs)) * Real.log 2 := by
  obtain ⟨⟨n, hn⟩, r⟩ := j
  cases n with
  | zero =>
    obtain ⟨k, hk⟩ : ∃ k : Fin 4352, k.val = 4096 + r.val := ⟨⟨4096 + r.val, by omega⟩, rfl⟩
    have hl : ¬ k.val < 4096 := by omega
    have hr : (⟨k.val - 4096, by omega⟩ : Fin 256) = r := Fin.ext (by simp only []; omega)
    rw [place_zero hn r k hk]
    simp only [kk_zero]
    rw [score_sum]
    simp only [Cert.ReferenceIdeal.Attn.rscore, Cert.ReferenceIdeal.Attn.kn, Cert.ReferenceIdeal.Attn.kr, dif_neg hl, hr]
  | succ n =>
    obtain ⟨k, hk⟩ : ∃ k : Fin 4352, k.val = 256 * n + r.val := ⟨⟨256 * n + r.val, by omega⟩, rfl⟩
    have hl : k.val < 4096 := by omega
    have hr : (⟨256 * (n % 16) + r.val, by omega⟩ : Fin 4096) = ⟨k.val, hl⟩ := Fin.ext (by simp only []; omega)
    rw [place_succ n hn r k hk]
    simp only [kk_succ, hr]
    rw [score_sum]
    simp only [Cert.ReferenceIdeal.Attn.rscore, Cert.ReferenceIdeal.Attn.kn, Cert.ReferenceIdeal.Attn.kr, dif_pos hl]

/-- A context key's value. -/
theorem value_zero (hn : 0 < 17) (r : Fin 256) (d : Fin 64) :
    Cert.ReferenceIdeal.Attn.vv a4 a7 b h (place (⟨0, hn⟩, r)) d = a7 (ix4 b r h d) := by
  obtain ⟨k, hk⟩ : ∃ k : Fin 4352, k.val = 4096 + r.val := ⟨⟨4096 + r.val, by omega⟩, rfl⟩
  have hl : ¬ k.val < 4096 := by omega
  have hr : (⟨k.val - 4096, by omega⟩ : Fin 256) = r := Fin.ext (by simp only []; omega)
  rw [place_zero hn r k hk, Cert.ReferenceIdeal.Attn.vv, dif_neg hl, hr]

/-- A sequence key's value. -/
theorem value_succ (n : ℕ) (hn : n + 1 < 17) (r : Fin 256) (d : Fin 64) :
    Cert.ReferenceIdeal.Attn.vv a4 a7 b h (place (⟨n + 1, hn⟩, r)) d = a4 (ix4 b ⟨256 * (n % 16) + r, by omega⟩ h d) := by
  obtain ⟨k, hk⟩ : ∃ k : Fin 4352, k.val = 256 * n + r.val := ⟨⟨256 * n + r.val, by omega⟩, rfl⟩
  have hl : k.val < 4096 := by omega
  have hr : (⟨256 * (n % 16) + r.val, by omega⟩ : Fin 4096) = ⟨k.val, hl⟩ := Fin.ext (by simp only []; omega)
  rw [place_succ n hn r k hk, Cert.ReferenceIdeal.Attn.vv, dif_pos hl, hr]

end Keys

/-! ### The blocks at a grid point -/

variable (m : (ℓ : Loc nD τ sig) → Buf (Elt Ideal) ℓ) (c : Dev nD)

theorem idx : ∀ t : Fin cfg0.N, win0_0.index t = ![t.val / 8 % 2, t.val / 16 * 8 + t.val % 8]
    ∧ win0_1.index t = ![t.val / 16, t.val / 8 % 2] ∧ win0_2.index t = ![256 + t.val / 16, t.val / 8 % 2]
    ∧ win0_3.index t = ![t.val / 8 % 2, t.val / 16] ∧ win0_4.index t = ![t.val / 8 % 2, 256 + t.val / 16]
    ∧ win0_5.index t = ![t.val / 16 * 8 + t.val % 8, t.val / 8 % 2] ∧ t.val / 16 < 16 :=
  (by decide +kernel : ∀ t : Fin grid0.N, _)

/-- The batch of a grid point. -/
def bb (t : Fin cfg0.N) : Fin 16 := ⟨t.val / 16, (idx t).2.2.2.2.2.2⟩
/-- The head of a grid point's block. -/
def HH (t : Fin cfg0.N) (h : Fin 4) : Fin 8 := ⟨4 * (t.val / 8 % 2) + h, by omega⟩
/-- The position of a grid point's query. -/
def ss (t : Fin cfg0.N) (l : Fin 512) : Fin 4096 := ⟨512 * (t.val % 8) + l, by omega⟩

theorem blk0 (t : Fin cfg0.N) (h : Fin 4) (e : Fin 128) (l : Fin 512) :
    (iblk m c 0 t : FVec Ideal S512x512 .bf16) (ix2 ⟨128 * h.val + e.val, by omega⟩ l)
      = packQ (F := Ideal) (m ((c : Thread nD τ).loc main_arg0)) (m ((c : Thread nD τ).loc main_arg1))
          (ix2 ⟨128 * (HH t h).val + e.val, by omega⟩ ⟨4096 * (bb t).val + (ss t l).val, by omega⟩) := by
  rw [← V_q]
  blk_simp [iblk]
  blk_ext [idx t, HH, bb, ss]

theorem blk1 (t : Fin cfg0.N) (h : Fin 4) (e : Fin 128) (k : Fin 4096) :
    (iblk m c 1 t : FVec Ideal S4096x512 .bf16) (ix2 k ⟨128 * h.val + e.val, by omega⟩)
      = packK (F := Ideal) (m ((c : Thread nD τ).loc main_arg2)) (m ((c : Thread nD τ).loc main_arg3)) (m ((c : Thread nD τ).loc main_arg5))
          (m ((c : Thread nD τ).loc main_arg6)) (ix2 ⟨4096 * (bb t).val + k.val, by omega⟩ ⟨128 * (HH t h).val + e.val, by omega⟩) := by
  rw [← V_k]
  blk_simp [iblk]
  blk_ext [idx t, HH, bb, ss]

theorem blk2 (t : Fin cfg0.N) (h : Fin 4) (e : Fin 128) (k : Fin 256) :
    (iblk m c 2 t : FVec Ideal S256x512 .bf16) (ix2 k ⟨128 * h.val + e.val, by omega⟩)
      = packK (F := Ideal) (m ((c : Thread nD τ).loc main_arg2)) (m ((c : Thread nD τ).loc main_arg3)) (m ((c : Thread nD τ).loc main_arg5))
          (m ((c : Thread nD τ).loc main_arg6)) (ix2 ⟨65536 + (256 * (bb t).val + k.val), by omega⟩ ⟨128 * (HH t h).val + e.val, by omega⟩) := by
  rw [← V_k]
  blk_simp [iblk]
  blk_ext [idx t, HH, bb, ss]

theorem blk3 (t : Fin cfg0.N) (h : Fin 4) (e : Fin 80) (k : Fin 4096) :
    (iblk m c 3 t : FVec Ideal S320x4096 .bf16) (ix2 ⟨80 * h.val + e.val, by omega⟩ k)
      = packV (F := Ideal) (m ((c : Thread nD τ).loc main_arg4)) (m ((c : Thread nD τ).loc main_arg7))
          (ix2 ⟨80 * (HH t h).val + e.val, by omega⟩ ⟨4096 * (bb t).val + k.val, by omega⟩) := by
  rw [← V_v]
  blk_simp [iblk]
  blk_ext [idx t, HH, bb, ss]

theorem blk4 (t : Fin cfg0.N) (h : Fin 4) (e : Fin 80) (k : Fin 256) :
    (iblk m c 4 t : FVec Ideal S320x256 .bf16) (ix2 ⟨80 * h.val + e.val, by omega⟩ k)
      = packV (F := Ideal) (m ((c : Thread nD τ).loc main_arg4)) (m ((c : Thread nD τ).loc main_arg7))
          (ix2 ⟨80 * (HH t h).val + e.val, by omega⟩ ⟨65536 + (256 * (bb t).val + k.val), by omega⟩) := by
  rw [← V_v]
  blk_simp [iblk]
  blk_ext [idx t, HH, bb, ss]

end Cert.KernelIdeal.Attn
-- ==== Proof.Point.lean ====
module

public import proofs.«01_k».proof.Proof.Value

/-! The kernel's result array is the reference's, where the queries and keys are finite. -/

@[expose] public section

set_option maxRecDepth 16384

noncomputable section

namespace Cert.KernelIdeal.Attn

open Cert.KernelIdeal Cert.KernelIdeal.Gen Cert.Softmax
open Idealize.ShloMosaic Idealize.ShloMosaic.TcCoe
open Idealize.SL Idealize.SL.Sem
open Idealize.ShloMosaic.Pipeline (Dat)

variable (m : (ℓ : Loc nD τ sig) → Buf (Elt Ideal) ℓ) (c : Dev nD)

/-! ### The result array -/

variable (A0 : S16x4096x8x64.Idx → ℝ) (A1 : S16x4096x8x32.Idx → ℝ) (A2 : S16x4096x8x64.Idx → ℝ) (A3 : S16x4096x32.Idx → ℝ)
  (A5 : S16x256x8x64.Idx → ℝ) (A6 : S16x256x32.Idx → ℝ)
  (hA0 : m ((c : Thread nD τ).loc main_arg0) = (fun i => (A0 i : EReal) : FVec Ideal S16x4096x8x64 .f32))
  (hA1 : m ((c : Thread nD τ).loc main_arg1) = (fun i => (A1 i : EReal) : FVec Ideal S16x4096x8x32 .f32))
  (hA2 : m ((c : Thread nD τ).loc main_arg2) = (fun i => (A2 i : EReal) : FVec Ideal S16x4096x8x64 .f32))
  (hA3 : m ((c : Thread nD τ).loc main_arg3) = (fun i => (A3 i : EReal) : FVec Ideal S16x4096x32 .f32))
  (hA5 : m ((c : Thread nD τ).loc main_arg5) = (fun i => (A5 i : EReal) : FVec Ideal S16x256x8x64 .f32))
  (hA6 : m ((c : Thread nD τ).loc main_arg6) = (fun i => (A6 i : EReal) : FVec Ideal S16x256x32 .f32))

/-- The queries of a grid point, scaled. -/
def QQ (t : Fin cfg0.N) (h : Fin 4) (e : Fin 128) (l : Fin 512) : ℝ :=
  pad (fun x => A0 (ix4 (bb t) (ss t l) (HH t h) x)) (fun x => A1 (ix4 (bb t) (ss t l) (HH t h) x)) e * qs
/-- The sequence's keys of a grid point. -/
def XX (t : Fin cfg0.N) (h : Fin 4) (k : Fin 4096) : Fin 128 → ℝ :=
  pad (fun x => A2 (ix4 (bb t) k (HH t h) x)) (fun x => A3 (ix3 (bb t) k x))
/-- The context's keys of a grid point. -/
def CC (t : Fin cfg0.N) (h : Fin 4) (k : Fin 256) : Fin 128 → ℝ :=
  pad (fun x => A5 (ix4 (bb t) k (HH t h) x)) (fun x => A6 (ix3 (bb t) k x))

include hA0 hA1 in
theorem read0 (t : Fin cfg0.N) (h : Fin 4) (e : Fin 128) (l : Fin 512) :
    (iblk m c 0 t : FVec Ideal S512x512 .bf16) (ix2 ⟨128 * h.val + e.val, by omega⟩ l) = ((QQ A0 A1 t h e l : ℝ) : EReal) := by
  refine (blk0 m c t h e l).trans ?_
  rw [packQ_apply, hA0, hA1, qscale_eq, QQ, pad, EReal.coe_mul]
  split_ifs <;> first | rfl | omega | simp

include hA2 hA3 hA5 hA6 in
theorem read1 (t : Fin cfg0.N) (h : Fin 4) (k : Fin 4096) (e : Fin 128) :
    (iblk m c 1 t : FVec Ideal S4096x512 .bf16) (ix2 k ⟨128 * h.val + e.val, by omega⟩) = ((XX A2 A3 t h k e : ℝ) : EReal) := by
  refine (blk1 m c t h e k).trans ?_
  rw [packKx_apply, hA2, hA3, XX, pad]
  split_ifs <;> rfl

include hA2 hA3 hA5 hA6 in
theorem read2 (t : Fin cfg0.N) (h : Fin 4) (k : Fin 256) (e : Fin 128) :
    (iblk m c 2 t : FVec Ideal S256x512 .bf16) (ix2 k ⟨128 * h.val + e.val, by omega⟩) = ((CC A5 A6 t h k e : ℝ) : EReal) := by
  refine (blk2 m c t h e k).trans ?_
  rw [packKc_apply _ _ _ _ _ (bb t) k (by simp only []; omega) (by simp only []; omega), hA5, hA6, CC, pad]
  split_ifs <;> rfl

theorem read3 (t : Fin cfg0.N) (h : Fin 4) (e : Fin 80) (k : Fin 4096) :
    (iblk m c 3 t : FVec Ideal S320x4096 .bf16) (ix2 ⟨80 * h.val + e.val, by omega⟩ k)
      = if h3 : e.val < 64 then (m ((c : Thread nD τ).loc main_arg4) : FVec Ideal S16x4096x8x64 .f32) (ix4 (bb t) k (HH t h) ⟨e, h3⟩) else (1 : EReal) :=
  (blk3 m c t h e k).trans (packVx_apply _ _ _ _ _ _)

theorem read4 (t : Fin cfg0.N) (h : Fin 4) (e : Fin 80) (k : Fin 256) :
    (iblk m c 4 t : FVec Ideal S320x256 .bf16) (ix2 ⟨80 * h.val + e.val, by omega⟩ k)
      = if h3 : e.val < 64 then (m ((c : Thread nD τ).loc main_arg7) : FVec Ideal S16x256x8x64 .f32) (ix4 (bb t) k (HH t h) ⟨e, h3⟩) else (1 : EReal) :=
  (blk4 m c t h e k).trans (packVc_apply _ _ _ (bb t) k (by simp only []; omega) (by simp only []; omega) _ _)

include hA0 hA1 hA2 hA3 hA5 hA6 in
/-- The block of a grid point, at an index, is the reference's mean. -/
theorem point (t : Fin cfg0.N) (h : Fin 4) (d : Fin 64) (l : Fin 512) :
    out (F := Ideal) (iblk m c 0 t) (iblk m c 1 t) (iblk m c 2 t) (iblk m c 3 t) (iblk m c 4 t) (ix2 l ⟨64 * h.val + d.val, by omega⟩)
      = att (Cert.ReferenceIdeal.Attn.rscore A0 A1 A2 A3 A5 A6 (bb t) (ss t l) (HH t h))
          fun k => Cert.ReferenceIdeal.Attn.vv (m ((c : Thread nD τ).loc main_arg4)) (m ((c : Thread nD τ).loc main_arg7)) (bb t) (HH t h) k d := by
  refine (out_apply _ _ _ _ _ (QQ A0 A1 t) (XX A2 A3 t) (CC A5 A6 t) (read0 m c A0 A1 hA0 hA1 t)
    (read1 m c A2 A3 A5 A6 hA2 hA3 hA5 hA6 t) (read2 m c A2 A3 A5 A6 hA2 hA3 hA5 hA6 t)
    (fun h k => (read3 m c t h 64 k).trans (dif_neg (by decide))) (fun h k => (read4 m c t h 64 k).trans (dif_neg (by decide))) h d l).trans ?_
  refine att_equiv order _ _ _ _ (score_place A0 A1 A2 A3 A5 A6 (bb t) (ss t l) (HH t h)) ?_
  rintro ⟨⟨n, hn⟩, r⟩
  cases n with
  | zero =>
    exact (value_zero _ _ (bb t) (HH t h) hn r d).trans
      ((vh_zero _ _ h ⟨d, by omega⟩ r).trans ((read4 m c t h ⟨d, by omega⟩ r).trans (dif_pos d.isLt))).symm
  | succ n =>
    exact (value_succ _ _ (bb t) (HH t h) n hn r d).trans
      ((vh_succ _ _ h n ⟨d, by omega⟩ r).trans ((read3 m c t h ⟨d, by omega⟩ _).trans (dif_pos d.isLt))).symm

end Cert.KernelIdeal.Attn
-- ==== Proof.Final.lean ====
module

public import proofs.«01_k».proof.Proof.Point

/-! The kernel's result array is the reference's, where the queries and keys are finite. -/

@[expose] public section

set_option maxRecDepth 16384

noncomputable section

namespace Cert.KernelIdeal.Attn

open Cert.KernelIdeal Cert.KernelIdeal.Gen Cert.Softmax
open Idealize.ShloMosaic Idealize.ShloMosaic.TcCoe
open Idealize.SL Idealize.SL.Sem
open Idealize.ShloMosaic.Pipeline (Dat)

variable (m : (ℓ : Loc nD τ sig) → Buf (Elt Ideal) ℓ) (c : Dev nD)

/-- The blocks that the points write make up the array. -/
theorem covers : (cfg0.win 5).Covers := by decide +kernel

/-- The array after a run holds, at the place of each block, what the point left. -/
theorem arr5 (dat : Dat τ (Elt Ideal) Unit ℕ (UR sig nD τ) ℕ cfg0 c) (G : FVec Ideal S65536x512 .bf16)
    (hX : ∀ (t : Fin cfg0.N) (l : Fin 512) (n : Fin 256),
      (dat.after 5 t : FVec Ideal S512x256 .bf16) (ix2 l n) = G (((cfg0.win 5).blk t).view.emb (ix2 l n))) :
    dat.arrAt 5 cfg0.N = G := by
  refine dat.arrAt_eq_of_covers 5 G covers fun t _ y => ?_
  obtain ⟨l, n, rfl⟩ : ∃ (l : Fin 512) (n : Fin 256), y = ix2 l n := ⟨y 0, y 1, eq_ix2 y⟩
  exact hX t l n

/-- The place of a grid point's block. -/
theorem emb5 (t : Fin cfg0.N) (h : Fin 4) (d : Fin 64) (l : Fin 512) :
    (((cfg0.win 5).blk t).view.emb (ix2 l ⟨64 * h.val + d.val, by omega⟩) : S65536x512.Idx)
      = ix2 ⟨4096 * (bb t).val + (ss t l).val, by omega⟩ ⟨64 * (HH t h).val + d.val, by omega⟩ := by
  blk_ext [idx t, HH, bb, ss]

variable (A0 : S16x4096x8x64.Idx → ℝ) (A1 : S16x4096x8x32.Idx → ℝ) (A2 : S16x4096x8x64.Idx → ℝ) (A3 : S16x4096x32.Idx → ℝ)
  (A5 : S16x256x8x64.Idx → ℝ) (A6 : S16x256x32.Idx → ℝ)
  (hA0 : m ((c : Thread nD τ).loc main_arg0) = (fun i => (A0 i : EReal) : FVec Ideal S16x4096x8x64 .f32))
  (hA1 : m ((c : Thread nD τ).loc main_arg1) = (fun i => (A1 i : EReal) : FVec Ideal S16x4096x8x32 .f32))
  (hA2 : m ((c : Thread nD τ).loc main_arg2) = (fun i => (A2 i : EReal) : FVec Ideal S16x4096x8x64 .f32))
  (hA3 : m ((c : Thread nD τ).loc main_arg3) = (fun i => (A3 i : EReal) : FVec Ideal S16x4096x32 .f32))
  (hA5 : m ((c : Thread nD τ).loc main_arg5) = (fun i => (A5 i : EReal) : FVec Ideal S16x256x8x64 .f32))
  (hA6 : m ((c : Thread nD τ).loc main_arg6) = (fun i => (A6 i : EReal) : FVec Ideal S16x256x32 .f32))

include hA0 hA1 hA2 hA3 hA5 hA6 in
/-- The result array after the run is any array that holds the reference's means. -/
theorem final (G : FVec Ideal S65536x512 .bf16)
    (hG : ∀ (b : Fin 16) (s : Fin 4096) (h : Fin 8) (d : Fin 64), G (ix2 ⟨4096 * b.val + s.val, by omega⟩ ⟨64 * h.val + d.val, by omega⟩)
      = att (Cert.ReferenceIdeal.Attn.rscore A0 A1 A2 A3 A5 A6 b s h)
          fun k => Cert.ReferenceIdeal.Attn.vv (m ((c : Thread nD τ).loc main_arg4)) (m ((c : Thread nD τ).loc main_arg7)) b h k d) :
    (dats m 0 c).arrAt 5 (cfgs 0).N = G := by
  refine arr5 c (dats m 0 c) G fun t l n => ?_
  obtain ⟨h, d, hn⟩ : ∃ (h : Fin 4) (d : Fin 64), n.val = 64 * h.val + d.val :=
    ⟨⟨n.val / 64, by omega⟩, ⟨n.val % 64, by omega⟩, (Nat.div_add_mod n.val 64).symm⟩
  obtain ⟨n, hlt⟩ := n
  obtain rfl : n = 64 * h.val + d.val := hn
  refine (congrFun (after5 m c t) _).trans ((point m c A0 A1 A2 A3 A5 A6 hA0 hA1 hA2 hA3 hA5 hA6 t h d l).trans ?_)
  exact (hG _ _ _ _).symm.trans (congrArg G (emb5 t h d l).symm)

end Cert.KernelIdeal.Attn
-- ==== Proof.Finite.lean ====
module

public import proofs.«01_k».proof.Defs
public import proofs.«01_k».proof.Proof.Gen.Pre_finite_qk
public import Idealize.ShloMosaic.Lib.ReduceAll
public import Idealize.ShloMosaic.Lib.Pointwise
public import Idealize.ShloMosaic.PureOps.Ideal.Laws

/-! The precondition makes the queries and keys arrays of reals. -/

@[expose] public section

set_option maxRecDepth 16384

noncomputable section

namespace Cert.Finite

open Idealize.ShloMosaic Idealize.SL.Sem

theorem inf_eq : Ideal.ofBits FTy.f32 0x7F800000#32 = ⊤ := by
  simp [Ideal.ofBits, Ideal.ieee]

/-- An absolute value below the largest extended real belongs to a real. -/
theorem real_of_cmp (x : EReal) (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl; simp at h'
  · rintro rfl; simp at h'

/-- An array whose every absolute value compares below the largest extended real is an array of reals. -/
theorem real_of_all {s t u : Shape} {axes : List (Fin s.rank)} [Subsingleton t.Idx] (x y : FVec Ideal s .f32) (hy : ∀ i, y i = (⊤ : EReal))
    (init : IVec u 1) (h : s.ReducesTo axes t) (hu : 0 < u.numel) (j : t.Idx)
    (e : Host.reduce IntOp.andi (cmpf .olt (Host.absf x) y) init h hu j = 1#1) :
    x = fun i => (((x i : EReal).toReal : ℝ) : EReal) := by
  funext i
  have hi := Host.reduce_andi_all _ init h hu j e i
  refine real_of_cmp (x i) ?_
  rw [← hy i]
  exact hi

section
open Cert.Pre_finite_qk Cert.Pre_finite_qk.Gen
variable
  (a0 : FVec Ideal S16x4096x8x64 .f32) (a1 : FVec Ideal S16x4096x8x32 .f32) (a2 : FVec Ideal S16x4096x8x64 .f32)
  (a3 : FVec Ideal S16x4096x32 .f32) (a4 : FVec Ideal S16x4096x8x64 .f32) (a5 : FVec Ideal S16x256x8x64 .f32)
  (a6 : FVec Ideal S16x256x32 .f32) (a7 : FVec Ideal S16x256x8x64 .f32)

instance : Subsingleton S_.Idx := ⟨fun i j => funext fun a => a.elim0⟩

/-- The six arrays of queries and keys are arrays of reals. -/
theorem reals (h : fn (F := Ideal) a0 a1 a2 a3 a4 a5 a6 a7 = fun _ => 1#1) :
    a0 = (fun i => (((a0 i : EReal).toReal : ℝ) : EReal)) ∧ a1 = (fun i => (((a1 i : EReal).toReal : ℝ) : EReal))
    ∧ a2 = (fun i => (((a2 i : EReal).toReal : ℝ) : EReal)) ∧ a3 = (fun i => (((a3 i : EReal).toReal : ℝ) : EReal))
    ∧ a5 = (fun i => (((a5 i : EReal).toReal : ℝ) : EReal)) ∧ a6 = (fun i => (((a6 i : EReal).toReal : ℝ) : EReal)) := by
  have h := congrFun h (fun a => a.elim0)
  dsimp only [fn, fn_part1] at h
  obtain ⟨h, h'⟩ := IntOp.andi_eq_one.1 h
  obtain ⟨h5, h6⟩ := IntOp.andi_eq_one.1 h'
  obtain ⟨h, h'⟩ := IntOp.andi_eq_one.1 h
  obtain ⟨h0, h1⟩ := IntOp.andi_eq_one.1 h
  obtain ⟨h2, h3⟩ := IntOp.andi_eq_one.1 h'
  refine ⟨real_of_all _ _ ?_ _ _ _ _ h0, real_of_all _ _ ?_ _ _ _ _ h1, real_of_all _ _ ?_ _ _ _ _ h2, real_of_all _ _ ?_ _ _ _ _ h3,
    real_of_all _ _ ?_ _ _ _ _ h5, real_of_all _ _ ?_ _ _ _ _ h6⟩ <;> exact fun i => inf_eq

end

end Cert.Finite
-- ==== Proof.FfnRow.lean ====
module

public import Idealize.ShloMosaic.Lib.Pipeline.ValueKit
public import Idealize.ShloMosaic.Lib.Pointwise
public import Idealize.ShloMosaic.PureOps.Ideal.Laws

/-! One token's half step of the feed-forward layer, as a function of its row, the gain of the norm, the three
modulation rows and the two weight matrices. -/

@[expose] public section

noncomputable section

namespace Cert.HalfStep

open Idealize.ShloMosaic

variable (x g sh sc gt : Fin 1024 → EReal) (Win : Fin 1024 → Fin 5632 → EReal) (Wout : Fin 2816 → Fin 1024 → EReal)

/-- The number one over the root of a row's mean square. -/
def scl : EReal :=
  Ideal.rsqrt (Ideal.div (∑ j, x j * x j) (Ideal.ofBits FTy.f32 0x44800000#32) + Ideal.ofBits FTy.f32 0x358637BD#32)

/-- The row, normalised and modulated. -/
def inner (k : Fin 1024) : EReal := x k * scl x * g k * (1 + sc k) + sh k

/-- A hidden unit before its activation, of a row `h`. -/
def pre (h : Fin 1024 → EReal) (j : Fin 5632) : EReal := ∑ k, h k * Win k j

/-- A hidden unit: the gate's half through its activation, times the other half. -/
def act (h : Fin 1024 → EReal) (j : Fin 2816) : EReal :=
  pre Win h ⟨j, by omega⟩ * Ideal.logistic (pre Win h ⟨j, by omega⟩) * pre Win h ⟨2816 + j, by omega⟩

/-- The token after the half step. -/
def step (n : Fin 1024) : EReal :=
  x n + Ideal.ofBits FTy.f32 0x3F000000#32 * gt n * ∑ j, act Win (inner x g sh sc) j * Wout j n

/-- A sum over eleven chunks of 256 is the sum over all. -/
theorem sum_chunks (f : Fin 2816 → EReal) :
    ∑ c : Fin 11, ∑ r : Fin 256, f ⟨256 * c.val + r.val, by omega⟩ = ∑ j, f j := by
  rw [← Fintype.sum_prod_type' (f := fun (c : Fin 11) (r : Fin 256) => f ⟨256 * c.val + r.val, by omega⟩)]
  refine Fintype.sum_equiv finProdFinEquiv _ _ fun p => congrArg f (Fin.ext ?_)
  show 256 * p.1.val + p.2.val = p.2.val + 256 * p.1.val
  omega

end Cert.HalfStep
-- ==== Proof.FfnVoc.lean ====
module

public import proofs.«01_k».proof.Proof.Gen.FfnIdeal.Frame
public import proofs.«01_k».proof.Proof.FfnRow
public import Idealize.ShloMosaic.Lib.Pipeline.Regions

/-! The half step of the feed-forward layer of 512 rows, in the operations of the kernel: the body's result is two of these. -/

@[expose] public section

set_option maxRecDepth 16384

noncomputable section

namespace Cert.FfnIdeal.Step

open Cert.FfnIdeal Cert.FfnIdeal.Gen Cert.HalfStep
open Idealize.ShloMosaic Idealize.ShloMosaic.TcCoe
open Idealize.SL Idealize.SL.Sem

section
variable {F : FTy → Type} [FloatOps F]
  (xs : FVec F S512x1024 .f32) (h : FVec F S512x1024 .bf16)
  (x1 : Vec F S1x9x1024 .f32) (x2 : Vec F S1x1024 .f32) (x3 : Vec F S1x1024x5632 .bf16) (x4 : Vec F S1x2816x1024 .bf16)

/-- The rows, normalised and modulated. -/
def norm : FVec F S512x1024 .bf16 :=
  truncf .bf16 (addf (mulf (mulf (mulf xs (broadcastTo S512x1024 (rsqrt (addf (divf (shapeCast S512x1
      (multiReduction .add [1] S512 (mulf xs xs) 0x00000000#32 reduces_S512x1024_S512 (.inl rfl) rfl) shapeCasts_S512_S512x1)
        (broadcast S512x1 (Scalar.ofBits .f32 0x44800000#32))) (broadcast S512x1 (Scalar.ofBits .f32 0x358637BD#32))))
          broadcasts_S512x1_S512x1024))
      (broadcastTo S512x1024 (shapeCast S1x1024 (fun j => x2 (r0_1.idx j) : Vec F S1x1024 .f32) shapeCasts_S1x1024_S1x1024) broadcasts_S1x1024_S512x1024))
    (broadcastTo S512x1024 (addf (broadcast S1x1024 (Scalar.ofBits .f32 0x3F800000#32))
      (shapeCast S1x1024 (fun j => x1 (r0_2.idx j) : Vec F S1x1x1024 .f32) shapeCasts_S1x1x1024_S1x1024)) broadcasts_S1x1024_S512x1024))
    (broadcastTo S512x1024 (shapeCast S1x1024 (fun j => x1 (r0_3.idx j) : Vec F S1x1x1024 .f32) shapeCasts_S1x1x1024_S1x1024) broadcasts_S1x1024_S512x1024))
    bitsLt_bf16_f32

/-- The columns of chunk `c` in the half of the first weights that starts at column `o`. -/
abbrev rin (o : ℕ) (ho : o ≤ 2816) (c : ℕ) : Rect S1x1024x5632 := Rect.unit ![0, 0, o + 256 * (c % 11)] S1x1024x256.size
  (by intro a; fin_cases a <;> simp [S1x1024x256, S1x1024x5632] <;> omega)
/-- The rows of chunk `c` in the second weights. -/
abbrev rout (c : ℕ) : Rect S1x2816x1024 := Rect.unit ![0, 256 * (c % 11), 0] S1x256x1024.size
  (by intro a; fin_cases a <;> simp [S1x256x1024, S1x2816x1024] <;> omega)

/-- The hidden units of chunk `c` in one half. -/
def hid (o : ℕ) (ho : o ≤ 2816) (c : ℕ) : FVec F S512x256 .f32 :=
  matmul dot_S512x1024_S1024x256_S512x256_1_0_0_1_n_n none h
    (shapeCast S1024x256 (fun j => x3 ((rin o ho c).idx j) : Vec F S1x1024x256 .bf16) shapeCasts_S1x1024x256_S1024x256)
    (constant S512x256 .f32 0x00000000#32)
/-- What chunk `c` adds to the result. -/
def part (c : ℕ) : FVec F S512x1024 .f32 :=
  matmul dot_S512x256_S256x1024_S512x1024_1_0_0_1_n_n none
    (truncf .bf16 (mulf (mulf (hid h x3 0 (by decide) c) (logistic (hid h x3 0 (by decide) c))) (hid h x3 2816 (by decide) c)) bitsLt_bf16_f32)
    (shapeCast S256x1024 (fun j => x4 ((rout c).idx j) : Vec F S1x256x1024 .bf16) shapeCasts_S1x256x1024_S256x1024)
    (constant S512x1024 .f32 0x00000000#32)
/-- The sum of the first `c` chunks. -/
def acc (c : ℕ) : FVec F S512x1024 .f32 :=
  Nat.rec (broadcast S512x1024 (Scalar.ofBits .f32 0x00000000#32)) (fun n a => addf a (part h x3 x4 n)) c
/-- The rows after the half step. -/
def rows : FVec F S512x1024 .f32 :=
  addf xs (mulf (broadcastTo S512x1024 (mulf (broadcast S1x1024 (Scalar.ofBits .f32 0x3F000000#32))
      (shapeCast S1x1024 (fun j => x1 (r0_37.idx j) : Vec F S1x1x1024 .f32) shapeCasts_S1x1x1024_S1x1024)) broadcasts_S1x1024_S512x1024)
    (acc (norm xs x1 x2) x3 x4 11))

/-- The first 512 rows of a block. -/
def top (x0 : Vec F S1024x1024 .f32) : FVec F S512x1024 .f32 :=
  extractStridedSlice S512x1024 ![0, 0] (shapeCast S1024x1024 (fun j => x0 (r0_0.idx j) : Vec F S1024x1024 .f32) shapeCasts_S1024x1024_S1024x1024)
    slices_S1024x1024_o0_0_S512x1024
/-- The last 512 rows of a block. -/
def bot (x0 : Vec F S1024x1024 .f32) : FVec F S512x1024 .f32 :=
  extractStridedSlice S512x1024 ![512, 0] (shapeCast S1024x1024 (fun j => x0 (r0_0.idx j) : Vec F S1024x1024 .f32) shapeCasts_S1024x1024_S1024x1024)
    slices_S1024x1024_o512_0_S512x1024

/-- The body leaves the half step of the two halves of its block of rows. -/
theorem out_eq (x0 : Vec F S1024x1024 .f32) :
    out0_5 x0 x1 x2 x3 x4 = View.canon [⟨r0_39, rows (bot x0) x1 x2 x3 x4⟩, ⟨r0_38, rows (top x0) x1 x2 x3 x4⟩] := by
  chain_rfl

end

section
variable (xs : FVec Ideal S512x1024 .f32) (h : FVec Ideal S512x1024 .bf16)
  (x1 : FVec Ideal S1x9x1024 .f32) (x2 : FVec Ideal S1x1024 .f32) (x3 : FVec Ideal S1x1024x5632 .bf16) (x4 : FVec Ideal S1x2816x1024 .bf16)

theorem norm_apply (l : Fin 512) (k : Fin 1024) : norm (F := Ideal) xs x1 x2 (ix2 l k)
    = inner (fun k => xs (ix2 l k)) (fun k => x2 (ix2 0 k)) (fun k => x1 (ix3 0 0 k)) (fun k => x1 (ix3 0 1 k)) k := by
  pointwise [norm]
  rfl

theorem hid_apply (o : ℕ) (ho : o ≤ 2816) (c : ℕ) (l : Fin 512) (j : Fin 256) : hid (F := Ideal) h x3 o ho c (ix2 l j)
    = pre (fun k j => x3 (ix3 0 k j)) (fun k => h (ix2 l k)) ⟨o + (256 * (c % 11) + j), by omega⟩ := by
  pointwise [hid]
  refine Finset.sum_congr rfl fun k _ => congrArg (h (ix2 l k) * x3 ·) ?_
  blk_ext

theorem part_apply (c : ℕ) (l : Fin 512) (n : Fin 1024) : part (F := Ideal) h x3 x4 c (ix2 l n)
    = ∑ r : Fin 256, act (fun k j => x3 (ix3 0 k j)) (fun k => h (ix2 l k)) ⟨256 * (c % 11) + r, by omega⟩ * x4 (ix3 0 ⟨256 * (c % 11) + r, by omega⟩ n) := by
  pointwise [part]
  refine Finset.sum_congr rfl fun r _ => congrArg (· * _) ?_
  rw [hid_apply, hid_apply]
  simp only [Nat.zero_add]
  rfl

theorem acc_apply (c : ℕ) (l : Fin 512) (n : Fin 1024) :
    acc (F := Ideal) h x3 x4 c (ix2 l n) = ∑ i : Fin c, part (F := Ideal) h x3 x4 i (ix2 l n) := by
  induction c with
  | zero => exact Ideal.ofBits_zero_f32
  | succ c ih =>
    rw [Fin.sum_univ_castSucc]
    exact congrArg (· + part (F := Ideal) h x3 x4 c (ix2 l n)) ih

/-- All chunks together: the sum over the hidden units. -/
theorem acc_sum (l : Fin 512) (n : Fin 1024) : acc (F := Ideal) h x3 x4 11 (ix2 l n)
    = ∑ j, act (fun k j => x3 (ix3 0 k j)) (fun k => h (ix2 l k)) j * x4 (ix3 0 j n) := by
  rw [acc_apply, ← sum_chunks]
  refine Finset.sum_congr rfl fun c _ => ?_
  rw [part_apply]
  have hc : c.val % 11 = c.val := Nat.mod_eq_of_lt c.isLt
  simp only [hc]

theorem rows_apply (l : Fin 512) (n : Fin 1024) : rows (F := Ideal) xs x1 x2 x3 x4 (ix2 l n)
    = step (fun k => xs (ix2 l k)) (fun k => x2 (ix2 0 k)) (fun k => x1 (ix3 0 0 k)) (fun k => x1 (ix3 0 1 k)) (fun k => x1 (ix3 0 2 k))
      (fun k j => x3 (ix3 0 k j)) (fun j n => x4 (ix3 0 j n)) n := by
  pointwise [rows]
  rw [acc_sum, funext (norm_apply xs x1 x2 l)]
  rfl

theorem top_apply (x0 : FVec Ideal S1024x1024 .f32) (l : Fin 512) (k : Fin 1024) :
    top (F := Ideal) x0 (ix2 l k) = x0 (ix2 ⟨l, by omega⟩ k) := by
  pointwise [top]

theorem bot_apply (x0 : FVec Ideal S1024x1024 .f32) (l : Fin 512) (k : Fin 1024) :
    bot (F := Ideal) x0 (ix2 l k) = x0 (ix2 ⟨512 + l, by omega⟩ k) := by
  pointwise [bot]

/-- The body's result at an index: the half step of that row. -/
theorem out_apply (x0 : FVec Ideal S1024x1024 .f32) (l n : Fin 1024) : out0_5 (F := Ideal) x0 x1 x2 x3 x4 (ix2 l n)
    = step (fun k => x0 (ix2 l k)) (fun k => x2 (ix2 0 k)) (fun k => x1 (ix3 0 0 k)) (fun k => x1 (ix3 0 1 k)) (fun k => x1 (ix3 0 2 k))
      (fun k j => x3 (ix3 0 k j)) (fun j n => x4 (ix3 0 j n)) n := by
  rw [out_eq]
  canon_tiles x e <;> obtain ⟨p, q, rfl⟩ : ∃ (p : Fin 512) (q : Fin 1024), x = ix2 p q := ⟨x 0, x 1, eq_ix2 x⟩
  · have el : l = ⟨512 + p, by omega⟩ := Fin.ext e0
    have en : n = q := Fin.ext e1
    rw [rows_apply, el, en]
    simp only [bot_apply]
  · have el : l = ⟨p, by omega⟩ := Fin.ext e0
    have en : n = q := Fin.ext e1
    rw [rows_apply, el, en]
    simp only [top_apply]
end

end Cert.FfnIdeal.Step
-- ==== Proof.FfnRef.lean ====
module

public import proofs.«01_k».proof.Proof.Gen.FfnReferenceIdeal.Read
public import proofs.«01_k».proof.Proof.FfnRow

/-! The reference's half step at an index: each token of the two streams by the row function. -/

@[expose] public section

set_option maxRecDepth 16384

noncomputable section

namespace Cert.FfnReferenceIdeal.Step

open Cert.FfnReferenceIdeal Cert.FfnReferenceIdeal.Gen Cert.FfnReferenceIdeal.Read Cert.HalfStep
open Idealize.ShloMosaic Idealize.ShloMosaic.TcCoe
open Idealize.SL Idealize.SL.Sem

variable (x0 : FVec Ideal S16x4096x1024 .f32) (x1 : FVec Ideal S16x256x1024 .f32) (x2 : FVec Ideal S16x9x1024 .f32)
  (x3 : FVec Ideal S1x9x1024 .f32) (x4 : FVec Ideal S4x1024 .f32) (x5 : FVec Ideal S4x1024x5632 .f32) (x6 : FVec Ideal S4x2816x1024 .f32)

/-- The layer's first weights. -/
abbrev wi (k : Fin 1024) (j : Fin 5632) : EReal := x5 (ix3 1 k j)
/-- The layer's second weights. -/
abbrev wo (j : Fin 2816) (n : Fin 1024) : EReal := x6 (ix3 1 j n)

theorem v3_apply (k : Fin 1024) (j : Fin 5632) : val_main_v3 (F := Ideal) x5 (ix2 k j) = wi x5 k j := by
  pointwise [val_main_v3, val_main_v2]

theorem v5_apply (j : Fin 2816) (n : Fin 1024) : val_main_v5 (F := Ideal) x6 (ix2 j n) = wo x6 j n := by
  pointwise [val_main_v5, val_main_v4]

/-! ### The sequence's tokens -/

theorem v13_apply (b : Fin 16) (s : Fin 4096) : val_main_v13 (F := Ideal) x0 (ix3 b s 0) = scl fun k => x0 (ix3 b s k) := by
  have e : ∀ k, idx_main_v7 (idx_main_v8 (ix3 b s 0)) k = ix3 b s k := fun k =>
    funext fun a => Fin.ext (by match a with | ⟨0, _⟩ => rfl | ⟨1, _⟩ => rfl | ⟨2, _⟩ => rfl)
  rw [val_main_v13_apply, val_main_v12_apply, val_main_v10_apply, val_main_v8_apply, val_main_v7_apply, val_main_v9_apply,
    val_main_v11_apply, val_main_cst_apply, val_main_cst_0_apply, val_main_cst_1_apply]
  simp only [e, val_main_v6_apply, Ideal.ofBits_def, Ideal.ofBits_zero_f32, Ideal.hostDivf_def, zero_add]
  rfl

theorem v30_apply (b : Fin 16) (s : Fin 4096) (k : Fin 1024) : val_main_v30 (F := Ideal) x0 x2 x4 (ix3 b s k)
    = inner (fun k => x0 (ix3 b s k)) (fun k => x4 (ix2 1 k)) (fun k => x2 (ix3 b 0 k)) (fun k => x2 (ix3 b 1 k)) k := by
  unfold HalfStep.inner
  rw [← v13_apply]
  pointwise [val_main_v30, val_main_v29, val_main_v28, val_main_v27, val_main_v26, val_main_v25, val_main_v24, val_main_v23, val_main_v22,
    val_main_cst_2, val_main_v21, val_main_v20, val_main_v19, val_main_v18, val_main_v17, val_main_v16, val_main_v1, val_main_v0, val_main_v15, val_main_v14]

theorem v31_apply (b : Fin 16) (s : Fin 4096) (j : Fin 5632) : val_main_v31 (F := Ideal) x0 x2 x4 x5 (ix3 b s j)
    = pre (wi x5) (inner (fun k => x0 (ix3 b s k)) (fun k => x4 (ix2 1 k)) (fun k => x2 (ix3 b 0 k)) (fun k => x2 (ix3 b 1 k))) j := by
  have el : ∀ k, lidx_main_v31 (ix3 b s j) k = ix3 b s k := fun k =>
    funext fun a => Fin.ext (by match a with | ⟨0, _⟩ => rfl | ⟨1, _⟩ => rfl | ⟨2, _⟩ => rfl)
  have er : ∀ k, ridx_main_v31 (ix3 b s j) k = ix2 k j := fun k =>
    funext fun a => Fin.ext (by match a with | ⟨0, _⟩ => rfl | ⟨1, _⟩ => rfl)
  rw [val_main_v31_apply, pre]
  simp only [el, er, v30_apply, v3_apply]

theorem v35_apply (b : Fin 16) (s : Fin 4096) (j : Fin 2816) : val_main_v35 (F := Ideal) x0 x2 x4 x5 (ix3 b s j)
    = act (wi x5) (inner (fun k => x0 (ix3 b s k)) (fun k => x4 (ix2 1 k)) (fun k => x2 (ix3 b 0 k)) (fun k => x2 (ix3 b 1 k))) j := by
  unfold act
  simp only [← v31_apply]
  pointwise [val_main_v35, val_main_v34, val_main_v33, val_main_v32, val_main_call0_v5, val_main_call0_v4, val_main_call0_v3, val_main_call0_v2,
    val_main_call0_v1, val_main_call0_v0, val_main_call0_cst, val_main_call0_cst_0]
  rfl

theorem v36_apply (b : Fin 16) (s : Fin 4096) (n : Fin 1024) : val_main_v36 (F := Ideal) x0 x2 x4 x5 x6 (ix3 b s n)
    = ∑ j, act (wi x5) (inner (fun k => x0 (ix3 b s k)) (fun k => x4 (ix2 1 k)) (fun k => x2 (ix3 b 0 k)) (fun k => x2 (ix3 b 1 k))) j * wo x6 j n := by
  have el : ∀ k, lidx_main_v36 (ix3 b s n) k = ix3 b s k := fun k =>
    funext fun a => Fin.ext (by match a with | ⟨0, _⟩ => rfl | ⟨1, _⟩ => rfl | ⟨2, _⟩ => rfl)
  have er : ∀ k, ridx_main_v36 (ix3 b s n) k = ix2 k n := fun k =>
    funext fun a => Fin.ext (by match a with | ⟨0, _⟩ => rfl | ⟨1, _⟩ => rfl)
  rw [val_main_v36_apply]
  simp only [el, er, v35_apply, v5_apply]

/-- A token of the sequence after the reference's half step. -/
theorem v44_apply (b : Fin 16) (s : Fin 4096) (n : Fin 1024) : val_main_v44 (F := Ideal) x0 x2 x4 x5 x6 (ix3 b s n)
    = step (fun k => x0 (ix3 b s k)) (fun k => x4 (ix2 1 k)) (fun k => x2 (ix3 b 0 k)) (fun k => x2 (ix3 b 1 k)) (fun k => x2 (ix3 b 2 k))
      (wi x5) (wo x6) n := by
  unfold step
  rw [← v36_apply]
  pointwise [val_main_v44, val_main_v43, val_main_v42, val_main_v41, val_main_v40, val_main_cst_3, val_main_v39, val_main_v38, val_main_v37]

/-! ### The context's tokens -/

theorem v48_apply (k : Fin 1024) (j : Fin 5632) : val_main_v48 (F := Ideal) x5 (ix2 k j) = wi x5 k j := v3_apply x5 k j

theorem v50_apply (j : Fin 2816) (n : Fin 1024) : val_main_v50 (F := Ideal) x6 (ix2 j n) = wo x6 j n := v5_apply x6 j n

theorem v58_apply (b : Fin 16) (s : Fin 256) : val_main_v58 (F := Ideal) x1 (ix3 b s 0) = scl fun k => x1 (ix3 b s k) := by
  have e : ∀ k, idx_main_v52 (idx_main_v53 (ix3 b s 0)) k = ix3 b s k := fun k =>
    funext fun a => Fin.ext (by match a with | ⟨0, _⟩ => rfl | ⟨1, _⟩ => rfl | ⟨2, _⟩ => rfl)
  rw [val_main_v58_apply, val_main_v57_apply, val_main_v55_apply, val_main_v53_apply, val_main_v52_apply, val_main_v54_apply,
    val_main_v56_apply, val_main_cst_4_apply, val_main_cst_5_apply, val_main_cst_6_apply]
  simp only [e, val_main_v51_apply, Ideal.ofBits_def, Ideal.ofBits_zero_f32, Ideal.hostDivf_def, zero_add]
  rfl

theorem v75_apply (b : Fin 16) (s : Fin 256) (k : Fin 1024) : val_main_v75 (F := Ideal) x1 x3 x4 (ix3 b s k)
    = inner (fun k => x1 (ix3 b s k)) (fun k => x4 (ix2 1 k)) (fun k => x3 (ix3 0 0 k)) (fun k => x3 (ix3 0 1 k)) k := by
  unfold HalfStep.inner
  rw [← v58_apply]
  pointwise [val_main_v75, val_main_v74, val_main_v73, val_main_v72, val_main_v71, val_main_v70, val_main_v69, val_main_v68, val_main_v67,
    val_main_cst_7, val_main_v66, val_main_v65, val_main_v64, val_main_v63, val_main_v62, val_main_v61, val_main_v46, val_main_v45, val_main_v60, val_main_v59]

theorem v76_apply (b : Fin 16) (s : Fin 256) (j : Fin 5632) : val_main_v76 (F := Ideal) x1 x3 x4 x5 (ix3 b s j)
    = pre (wi x5) (inner (fun k => x1 (ix3 b s k)) (fun k => x4 (ix2 1 k)) (fun k => x3 (ix3 0 0 k)) (fun k => x3 (ix3 0 1 k))) j := by
  have el : ∀ k, lidx_main_v76 (ix3 b s j) k = ix3 b s k := fun k =>
    funext fun a => Fin.ext (by match a with | ⟨0, _⟩ => rfl | ⟨1, _⟩ => rfl | ⟨2, _⟩ => rfl)
  have er : ∀ k, ridx_main_v76 (ix3 b s j) k = ix2 k j := fun k =>
    funext fun a => Fin.ext (by match a with | ⟨0, _⟩ => rfl | ⟨1, _⟩ => rfl)
  rw [val_main_v76_apply, pre]
  simp only [el, er, v75_apply, v48_apply]

theorem v80_apply (b : Fin 16) (s : Fin 256) (j : Fin 2816) : val_main_v80 (F := Ideal) x1 x3 x4 x5 (ix3 b s j)
    = act (wi x5) (inner (fun k => x1 (ix3 b s k)) (fun k => x4 (ix2 1 k)) (fun k => x3 (ix3 0 0 k)) (fun k => x3 (ix3 0 1 k))) j := by
  unfold act
  simp only [← v76_apply]
  pointwise [val_main_v80, val_main_v79, val_main_v78, val_main_v77, val_main_call1_v5, val_main_call1_v4, val_main_call1_v3, val_main_call1_v2,
    val_main_call1_v1, val_main_call1_v0, val_main_call1_cst, val_main_call1_cst_0]
  rfl

theorem v81_apply (b : Fin 16) (s : Fin 256) (n : Fin 1024) : val_main_v81 (F := Ideal) x1 x3 x4 x5 x6 (ix3 b s n)
    = ∑ j, act (wi x5) (inner (fun k => x1 (ix3 b s k)) (fun k => x4 (ix2 1 k)) (fun k => x3 (ix3 0 0 k)) (fun k => x3 (ix3 0 1 k))) j * wo x6 j n := by
  have el : ∀ k, lidx_main_v81 (ix3 b s n) k = ix3 b s k := fun k =>
    funext fun a => Fin.ext (by match a with | ⟨0, _⟩ => rfl | ⟨1, _⟩ => rfl | ⟨2, _⟩ => rfl)
  have er : ∀ k, ridx_main_v81 (ix3 b s n) k = ix2 k n := fun k =>
    funext fun a => Fin.ext (by match a with | ⟨0, _⟩ => rfl | ⟨1, _⟩ => rfl)
  rw [val_main_v81_apply]
  simp only [el, er, v80_apply, v50_apply]

/-- A token of the context after the reference's half step. -/
theorem v89_apply (b : Fin 16) (s : Fin 256) (n : Fin 1024) : val_main_v89 (F := Ideal) x1 x3 x4 x5 x6 (ix3 b s n)
    = step (fun k => x1 (ix3 b s k)) (fun k => x4 (ix2 1 k)) (fun k => x3 (ix3 0 0 k)) (fun k => x3 (ix3 0 1 k)) (fun k => x3 (ix3 0 2 k))
      (wi x5) (wo x6) n := by
  unfold step
  rw [← v81_apply]
  pointwise [val_main_v89, val_main_v88, val_main_v87, val_main_v86, val_main_v85, val_main_cst_8, val_main_v84, val_main_v83, val_main_v82]

/-- The reference's result at an index. -/
theorem v92_apply (R : Fin 69632) (n : Fin 1024) : val_main_v92 (F := Ideal) x0 x1 x2 x3 x4 x5 x6 (ix2 R n)
    = if hR : R.val < 65536 then val_main_v44 (F := Ideal) x0 x2 x4 x5 x6 (ix3 ⟨R / 4096, by omega⟩ ⟨R % 4096, by omega⟩ n)
      else val_main_v89 (F := Ideal) x1 x3 x4 x5 x6 (ix3 ⟨(R - 65536) / 256, by omega⟩ ⟨(R - 65536) % 256, by omega⟩ n) := by
  pointwise [val_main_v92, val_main_v91, val_main_v90]

end Cert.FfnReferenceIdeal.Step
-- ==== Proof.FfnFinal.lean ====
module

public import proofs.«01_k».proof.Proof.FfnVoc
public import proofs.«01_k».proof.Proof.FfnRef
public import proofs.«01_k».proof.Proof.Gen.FfnIdeal.Value
public import Idealize.ShloMosaic.Lib.Claim

/-! The feed-forward call's result array is the reference's. -/

@[expose] public section

set_option maxRecDepth 16384

noncomputable section

namespace Cert.FfnIdeal.Step

open Cert.FfnIdeal Cert.FfnIdeal.Gen Cert.HalfStep
open Idealize.ShloMosaic Idealize.ShloMosaic.TcCoe
open Idealize.SL Idealize.SL.Sem
open Idealize.ShloMosaic.Pipeline (Dat)

section
variable {F : FTy → Type} [FloatOps F]

/-- The two streams' tokens, one below the other. -/
def streams (a0 : FVec F S16x4096x1024 .f32) (a1 : FVec F S16x256x1024 .f32) : FVec F S69632x1024 .f32 :=
  concatenate S69632x1024 0 [⟨S65536x1024, shapeCast S65536x1024 a0 shapeCasts_S16x4096x1024_S65536x1024⟩,
    ⟨S4096x1024, shapeCast S4096x1024 a1 shapeCasts_S16x256x1024_S4096x1024⟩] concatenates_S65536x1024_S4096x1024_S69632x1024_d0
/-- The modulation of the sequences, then the context's. -/
def mods (a2 : FVec F S16x9x1024 .f32) (a3 : FVec F S1x9x1024 .f32) : FVec F S17x9x1024 .f32 :=
  concatenate S17x9x1024 0 [⟨S16x9x1024, a2⟩, ⟨S1x9x1024, a3⟩] concatenates_S16x9x1024_S1x9x1024_S17x9x1024_d0
/-- The layer's gain. -/
def gain (a4 : FVec F S4x1024 .f32) : FVec F S1x1024 .f32 :=
  shapeCast S1x1024 (shapeCast S1024 (extractStridedSlice S1x1024 ![1, 0] a4 slices_S4x1024_S1x1024_1_0) shapeCasts_S1x1024_S1024) shapeCasts_S1024_S1x1024

variable (m : (ℓ : Loc nD τ sig) → Buf (Elt F) ℓ) (c : Dev nD)

theorem V_s : V m c main_v2 = streams (m ((c : Thread nD τ).loc main_arg0)) (m ((c : Thread nD τ).loc main_arg1)) := by
  unfold V; after_results; try rfl
theorem V_m : V m c main_v3 = mods (m ((c : Thread nD τ).loc main_arg2)) (m ((c : Thread nD τ).loc main_arg3)) := by
  unfold V; after_results; try rfl
theorem V_g : V m c main_v8 = gain (m ((c : Thread nD τ).loc main_arg4)) := by
  unfold V; after_results; try rfl
theorem V_i : V m c main_v6 = (truncf .bf16 (m ((c : Thread nD τ).loc main_arg5)) bitsLt_bf16_f32 : FVec F S4x1024x5632 .bf16) := by
  unfold V; after_results; try rfl
theorem V_o : V m c main_v7 = (truncf .bf16 (m ((c : Thread nD τ).loc main_arg6)) bitsLt_bf16_f32 : FVec F S4x2816x1024 .bf16) := by
  unfold V; after_results; try rfl
end

section
variable (a0 : FVec Ideal S16x4096x1024 .f32) (a1 : FVec Ideal S16x256x1024 .f32) (a2 : FVec Ideal S16x9x1024 .f32)
  (a3 : FVec Ideal S1x9x1024 .f32) (a4 : FVec Ideal S4x1024 .f32)

theorem streams_apply (R : Fin 69632) (k : Fin 1024) : streams (F := Ideal) a0 a1 (ix2 R k)
    = if hR : R.val < 65536 then a0 (ix3 ⟨R / 4096, by omega⟩ ⟨R % 4096, by omega⟩ k)
      else a1 (ix3 ⟨(R - 65536) / 256, by omega⟩ ⟨(R - 65536) % 256, by omega⟩ k) := by
  pointwise [streams]

theorem mods_apply (b : Fin 17) (i : Fin 9) (k : Fin 1024) : mods (F := Ideal) a2 a3 (ix3 b i k)
    = if hb : b.val < 16 then a2 (ix3 ⟨b, hb⟩ i k) else a3 (ix3 0 i k) := by
  pointwise [mods]
  by_cases h : b.val < 16
  · rw [dif_pos h, dif_pos h]
  · rw [dif_neg h, dif_neg h]
    exact congrArg (fun i' => a3 (ix3 i' i k)) (Subsingleton.elim _ _)

theorem gain_apply (k : Fin 1024) : gain (F := Ideal) a4 (ix2 0 k) = a4 (ix2 1 k) := by
  pointwise [gain]

end

variable (m : (ℓ : Loc nD τ sig) → Buf (Elt Ideal) ℓ) (c : Dev nD)

theorem idx : ∀ t : Fin cfg0.N, win0_0.index t = ![t.val, 0] ∧ win0_1.index t = ![min (t.val / 4) 16, 0, 0]
    ∧ win0_2.index t = ![0, 0] ∧ win0_3.index t = ![1, 0, 0] ∧ win0_4.index t = ![1, 0, 0]
    ∧ win0_5.index t = ![t.val, 0] ∧ t.val < 68 :=
  (by decide +kernel : ∀ t : Fin grid0.N, _)

/-- The place of a block's row among all rows. -/
def rr (t : Fin cfg0.N) (l : Fin 1024) : Fin 69632 := ⟨1024 * t.val + l.val, by have := (idx t).2.2.2.2.2.2; omega⟩
/-- The row of the modulation that a grid point takes. -/
def mm (t : Fin cfg0.N) : Fin 17 := ⟨min (t.val / 4) 16, by omega⟩

theorem blk0 (t : Fin cfg0.N) (l k : Fin 1024) : (iblk m c 0 t : FVec Ideal S1024x1024 .f32) (ix2 l k)
    = streams (F := Ideal) (m ((c : Thread nD τ).loc main_arg0)) (m ((c : Thread nD τ).loc main_arg1)) (ix2 (rr t l) k) := by
  rw [← V_s]
  blk_simp [iblk]
  blk_ext [idx t, rr]

theorem blk1 (t : Fin cfg0.N) (i : Fin 9) (k : Fin 1024) : (iblk m c 1 t : FVec Ideal S1x9x1024 .f32) (ix3 0 i k)
    = mods (F := Ideal) (m ((c : Thread nD τ).loc main_arg2)) (m ((c : Thread nD τ).loc main_arg3)) (ix3 (mm t) i k) := by
  rw [← V_m]
  blk_simp [iblk]
  blk_ext [idx t, mm]

theorem blk2 (t : Fin cfg0.N) (k : Fin 1024) : (iblk m c 2 t : FVec Ideal S1x1024 .f32) (ix2 0 k)
    = (m ((c : Thread nD τ).loc main_arg4) : FVec Ideal S4x1024 .f32) (ix2 1 k) := by
  refine Eq.trans ?_ ((congrFun (V_g m c) (ix2 0 k)).trans (gain_apply _ k))
  blk_simp [iblk]
  blk_ext [idx t]

theorem blk3 (t : Fin cfg0.N) (k : Fin 1024) (j : Fin 5632) : (iblk m c 3 t : FVec Ideal S1x1024x5632 .bf16) (ix3 0 k j)
    = (m ((c : Thread nD τ).loc main_arg5) : FVec Ideal S4x1024x5632 .f32) (ix3 1 k j) := by
  refine Eq.trans ?_ (congrFun (V_i m c) (ix3 1 k j))
  blk_simp [iblk]
  blk_ext [idx t]

theorem blk4 (t : Fin cfg0.N) (j : Fin 2816) (n : Fin 1024) : (iblk m c 4 t : FVec Ideal S1x2816x1024 .bf16) (ix3 0 j n)
    = (m ((c : Thread nD τ).loc main_arg6) : FVec Ideal S4x2816x1024 .f32) (ix3 1 j n) := by
  refine Eq.trans ?_ (congrFun (V_o m c) (ix3 1 j n))
  blk_simp [iblk]
  blk_ext [idx t]

/-- The blocks that the points write make up the array. -/
theorem covers : (cfg0.win 5).Covers := by decide +kernel

/-- The place of a block's index. -/
theorem emb5 (t : Fin cfg0.N) (l n : Fin 1024) :
    (((cfg0.win 5).blk t).view.emb (ix2 l n) : S69632x1024.Idx) = ix2 (rr t l) n := by
  blk_ext [idx t, rr]

/-- The array after a run holds, at the place of each block, what the point left. -/
theorem arr5 (dat : Dat τ (Elt Ideal) Unit ℕ (UR sig nD τ) ℕ cfg0 c) (G : FVec Ideal S69632x1024 .f32)
    (hX : ∀ (t : Fin cfg0.N) (l n : Fin 1024),
      (dat.after 5 t : FVec Ideal S1024x1024 .f32) (ix2 l n) = G (((cfg0.win 5).blk t).view.emb (ix2 l n))) :
    dat.arrAt 5 cfg0.N = G := by
  refine dat.arrAt_eq_of_covers 5 G covers fun t _ y => ?_
  obtain ⟨l, n, rfl⟩ : ∃ (l n : Fin 1024), y = ix2 l n := ⟨y 0, y 1, eq_ix2 y⟩
  exact hX t l n

/-- What a grid point leaves, at an index. -/
theorem after_apply (t : Fin cfg0.N) (l n : Fin 1024) :
    ((dats m 0 c).after 5 t : FVec Ideal S1024x1024 .f32) (ix2 l n)
      = Cert.FfnReferenceIdeal.Read.val_main_v92 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 (rr t l) n) := by
  rw [after0_5]
  refine (out_apply _ _ _ _ _ l n).trans ?_
  simp only [blk0, blk1, blk2, blk3, blk4, streams_apply, mods_apply]
  rw [Cert.FfnReferenceIdeal.Step.v92_apply]
  have ht := (idx t).2.2.2.2.2.2
  by_cases h : t.val < 64
  · have hR : (rr t l).val < 65536 := by simp only [rr]; omega
    have hm : (mm t).val < 16 := by simp only [mm]; omega
    have hb : (⟨(mm t).val, hm⟩ : Fin 16) = ⟨(rr t l).val / 4096, by omega⟩ := Fin.ext (by simp only [rr, mm]; omega)
    simp only [dif_pos hR, dif_pos hm, hb]
    exact (Cert.FfnReferenceIdeal.Step.v44_apply ..).symm
  · have hR : ¬ (rr t l).val < 65536 := by simp only [rr]; omega
    have hm : ¬ (mm t).val < 16 := by simp only [mm]; omega
    simp only [dif_neg hR, dif_neg hm]
    exact (Cert.FfnReferenceIdeal.Step.v89_apply ..).symm

/-- The result array after the run is the reference's. -/
theorem final : (dats m 0 c).arrAt 5 (cfgs 0).N
      = Cert.FfnReferenceIdeal.Read.val_main_v92 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  arr5 c (dats m 0 c) _ fun t l n => (after_apply m c t l n).trans (congrArg _ (emb5 t l n).symm)

end Cert.FfnIdeal.Step
-- ==== Proof.MixRow.lean ====
module

public import proofs.«01_k».proof.Proof.FfnRow

/-! One token's mixing residual and last half step, as functions of its row, the row of the three head groups, the
modulation rows and the weights. -/

@[expose] public section

noncomputable section

namespace Cert.HalfStep

open Idealize.ShloMosaic

/-- The three head groups side by side. -/
def groups (f cv : Fin 256 → EReal) (a : Fin 512 → EReal) (k : Fin 1024) : EReal :=
  if h : k.val < 256 then f ⟨k, h⟩ else if h' : k.val < 512 then cv ⟨k - 256, by omega⟩ else a ⟨k - 512, by omega⟩

/-- The gated convolution at a position, of its gate, its three taps and the values before, at and after it. -/
def conv3 (b w0 w1 w2 p u n : EReal) : EReal := b * (w0 * p + w1 * u + w2 * n)

/-- The token after the gated residual of the projected head groups. -/
def mixed (x gt c : Fin 1024 → EReal) (Wo : Fin 1024 → Fin 1024 → EReal) (n : Fin 1024) : EReal :=
  x n + gt n * ∑ k, c k * Wo k n

/-- A row, normalised with a gain. -/
def normed (y g : Fin 1024 → EReal) (n : Fin 1024) : EReal := y n * scl y * g n

end Cert.HalfStep
-- ==== Proof.MixVoc.lean ====
module

public import proofs.«01_k».proof.Proof.Gen.MixIdeal.Frame
public import proofs.«01_k».proof.Proof.FfnVoc
public import proofs.«01_k».proof.Proof.MixRow

/-! The last layer's second half step with the mixing residual before it and the final norm after it, in the operations of
the kernel: 512 rows at a time. -/

@[expose] public section

set_option maxRecDepth 16384

noncomputable section

namespace Cert.MixIdeal.Mix

open Cert.MixIdeal Cert.MixIdeal.Gen Cert.HalfStep
open Idealize.ShloMosaic Idealize.ShloMosaic.TcCoe
open Idealize.SL Idealize.SL.Sem

section
variable {F : FTy → Type} [FloatOps F]
  (i : grid0.Coords) (xs : FVec F S512x1024 .f32) (x0 : Vec F S1024x1024 .f32)
  (x1 : Vec F S1x9x1024 .f32) (x2 : Vec F S1x1024 .f32) (x3 : Vec F S1x1024x5632 .bf16) (x4 : Vec F S1x2816x1024 .bf16)
  (x5 : Vec F S1024x256 .bf16) (x6 x7 : Vec F S1024x256 .f32) (x8 x9 : Vec F S8x256 .f32) (x10 : Vec F S1024x512 .bf16)
  (x11 : Vec F S3x256 .f32) (x12 : Vec F S1x1024x1024 .bf16) (x13 : Vec F S1x1024 .f32)

/-- One over the root of each row's mean square. -/
def scale : FVec F S512x1 .f32 :=
  rsqrt (addf (divf (shapeCast S512x1 (multiReduction .add [1] S512 (mulf xs xs) 0x00000000#32 reduces_S512x1024_S512 (.inl rfl) rfl)
    shapeCasts_S512_S512x1) (broadcast S512x1 (Scalar.ofBits .f32 0x44800000#32))) (broadcast S512x1 (Scalar.ofBits .f32 0x358637BD#32)))

/-- The rows, normalised with a gain. -/
def gained (g : Vec F S1x1024 .f32) : FVec F S512x1024 .f32 :=
  mulf (mulf xs (broadcastTo S512x1024 (scale xs) broadcasts_S512x1_S512x1024))
    (broadcastTo S512x1024 (shapeCast S1x1024 (View.ld g r0_10) shapeCasts_S1x1024_S1x1024) broadcasts_S1x1024_S512x1024)

/-- The rows, normalised and modulated. -/
def norm : FVec F S512x1024 .bf16 :=
  truncf .bf16 (addf (mulf (gained xs x2) (broadcastTo S512x1024 (addf (broadcast S1x1024 (Scalar.ofBits .f32 0x3F800000#32))
      (shapeCast S1x1024 (View.ld x1 r0_11) shapeCasts_S1x1x1024_S1x1024)) broadcasts_S1x1024_S512x1024))
    (broadcastTo S512x1024 (shapeCast S1x1024 (View.ld x1 r0_12) shapeCasts_S1x1x1024_S1x1024) broadcasts_S1x1024_S512x1024))
    bitsLt_bf16_f32

/-- The rows after the half step. -/
def rows : FVec F S512x1024 .f32 :=
  addf xs (mulf (broadcastTo S512x1024 (mulf (broadcast S1x1024 (Scalar.ofBits .f32 0x3F000000#32))
      (shapeCast S1x1024 (View.ld x1 r0_46) shapeCasts_S1x1x1024_S1x1024)) broadcasts_S1x1024_S512x1024)
    (Cert.FfnIdeal.Step.acc (norm xs x1 x2) x3 x4 11))

/-- The first 512 rows of a block. -/
def top : FVec F S512x1024 .f32 := extractStridedSlice S512x1024 ![0, 0] x0 slices_S1024x1024_o0_0_S512x1024
/-- The last 512 rows of a block. -/
def bot : FVec F S512x1024 .f32 := extractStridedSlice S512x1024 ![512, 0] x0 slices_S1024x1024_o512_0_S512x1024

/-- The values of the convolution one position back. -/
abbrev back : FVec F S1024x256 .f32 := k0_pay8 i (View.ld x7 r0_1) (View.ld x8 r0_3)
/-- The values of the convolution one position on, inside a block. -/
abbrev fore : FVec F S1024x256 .f32 := k0_pay6 (View.ld x7 r0_1) (View.ld x9 r0_4)
/-- The block's rows after the mixing residual. -/
abbrev blend : FVec F S1024x1024 .f32 :=
  k0_pay10 (k0_pay2 (View.ld x0 r0_0)) (k0_pay3 (View.ld x5 r0_1)) (k0_pay4 (View.ld x10 r0_2)) (k0_pay5 (View.ld x7 r0_1))
    (fore x7 x9) (k0_pay7 i) (back i x7 x8) (k0_pay9 i) (View.ld x6 r0_1) (View.ld x11 r0_5) (View.ld x11 r0_6) (View.ld x11 r0_7)
    (View.ld x1 r0_8) (View.ld x12 r0_9)

/-- The body leaves the normalised half step of the two halves of its block of mixed rows. -/
theorem out_eq : out0_14 i x0 x1 x2 x3 x4 x5 x6 x7 x8 x9 x10 x11 x12 x13
    = View.canon [⟨r0_48, gained (rows (bot (blend i x0 x1 x5 x6 x7 x8 x9 x10 x11 x12)) x1 x2 x3 x4) x13⟩,
      ⟨r0_47, gained (rows (top (blend i x0 x1 x5 x6 x7 x8 x9 x10 x11 x12)) x1 x2 x3 x4) x13⟩] := by
  chain_rfl

end

section
variable (i : grid0.Coords) (xs : FVec Ideal S512x1024 .f32) (x0 : FVec Ideal S1024x1024 .f32)
  (x1 : FVec Ideal S1x9x1024 .f32) (x2 : FVec Ideal S1x1024 .f32) (x3 : FVec Ideal S1x1024x5632 .bf16) (x4 : FVec Ideal S1x2816x1024 .bf16)
  (x5 : FVec Ideal S1024x256 .bf16) (x6 x7 : FVec Ideal S1024x256 .f32) (x8 x9 : FVec Ideal S8x256 .f32) (x10 : FVec Ideal S1024x512 .bf16)
  (x11 : FVec Ideal S3x256 .f32) (x12 : FVec Ideal S1x1024x1024 .bf16) (x13 : FVec Ideal S1x1024 .f32)

theorem scale_apply (l : Fin 512) : scale (F := Ideal) xs (ix2 l 0) = scl fun k => xs (ix2 l k) := by
  pointwise [scale]
  rfl

theorem gained_apply (l : Fin 512) (n : Fin 1024) :
    gained (F := Ideal) xs x2 (ix2 l n) = normed (fun k => xs (ix2 l k)) (fun k => x2 (ix2 0 k)) n := by
  unfold normed
  rw [← scale_apply]
  pointwise [gained]

theorem norm_apply (l : Fin 512) (k : Fin 1024) : norm (F := Ideal) xs x1 x2 (ix2 l k)
    = HalfStep.inner (fun k => xs (ix2 l k)) (fun k => x2 (ix2 0 k)) (fun k => x1 (ix3 0 6 k)) (fun k => x1 (ix3 0 7 k)) k := by
  pointwise [norm]
  rw [gained_apply]
  rfl

theorem rows_apply (l : Fin 512) (n : Fin 1024) : rows (F := Ideal) xs x1 x2 x3 x4 (ix2 l n)
    = step (fun k => xs (ix2 l k)) (fun k => x2 (ix2 0 k)) (fun k => x1 (ix3 0 6 k)) (fun k => x1 (ix3 0 7 k)) (fun k => x1 (ix3 0 8 k))
      (fun k j => x3 (ix3 0 k j)) (fun j n => x4 (ix3 0 j n)) n := by
  pointwise [rows]
  rw [Cert.FfnIdeal.Step.acc_sum, funext (norm_apply xs x1 x2 l)]
  rfl

theorem top_apply (l : Fin 512) (k : Fin 1024) : top (F := Ideal) x0 (ix2 l k) = x0 (ix2 ⟨l, by omega⟩ k) := by
  pointwise [top]

theorem bot_apply (l : Fin 512) (k : Fin 1024) : bot (F := Ideal) x0 (ix2 l k) = x0 (ix2 ⟨512 + l, by omega⟩ k) := by
  pointwise [bot]

/-- The last position of a sequence. -/
theorem word_last {t : Nat} (ht : t < 64) :
    Scalar.select (Scalar.cmpi .sge (BitVec.ofNat 32 t) 64#32) 255#32 4095#32 = 4095#32 :=
  (by decide : ∀ t : Fin 64, Scalar.select (Scalar.cmpi .sge (BitVec.ofNat 32 t.val) 64#32) 255#32 4095#32 = 4095#32) ⟨t, ht⟩

/-- A choice by the equality of two small words. -/
theorem choose {α : Type} {a b : Nat} (ha : a < 2 ^ 32) (hb : b < 2 ^ 32) (x y : α) :
    Scalar.select (IntOp.cmpi .eq (BitVec.ofNat 32 a) (BitVec.ofNat 32 b)) x y = if a = b then x else y := by
  simp (disch := omega) only [hlo_ix]

/-- A row's position in its sequence, as the kernel computes it. -/
theorem pos_apply (hi : (i 0).val < 64) (l : Fin 1024) (k : Fin 256) :
    k0_pay7 i (ix2 l k) = BitVec.ofNat 32 ((1024 * (i 0).val + l.val) % 4096) := by
  pointwise [k0_pay7]
  rw [word_last hi]
  refine BitVec.eq_of_toNat_eq ?_
  change ((BitVec.ofNat 32 l.val + BitVec.ofNat 32 (i 0).val * 1024#32) &&& 4095#32).toNat = _
  have hl := l.isLt
  rw [BitVec.toNat_and, BitVec.toNat_add, BitVec.toNat_mul, BitVec.toNat_ofNat, BitVec.toNat_ofNat, BitVec.toNat_ofNat,
    BitVec.toNat_ofNat, BitVec.toNat_ofNat, show 4095 % 2 ^ 32 = 2 ^ 12 - 1 by decide, Nat.and_two_pow_sub_one_eq_mod]
  omega

theorem last_apply (hi : (i 0).val < 64) (l : Fin 1024) (k : Fin 256) : k0_pay9 i (ix2 l k) = 4095#32 := by
  pointwise [k0_pay9]
  exact word_last hi

theorem back_apply (hi : (i 0).val < 64) (l : Fin 1024) (k : Fin 256) : back (F := Ideal) i x7 x8 (ix2 l k)
    = if (1024 * (i 0).val + l.val) % 4096 = 0 then 0 else if h : l.val = 0 then x8 (ix2 7 k) else x7 (ix2 ⟨l - 1, by omega⟩ k) := by
  have hl := l.isLt
  unfold back k0_pay8
  pointwise [k0_pay5]
  rw [pos_apply i hi, choose (by omega) (by omega), choose (by omega) (by omega)]
  refine if_congr Iff.rfl rfl ?_
  by_cases h : l.val = 0
  · rw [if_pos h, dif_pos h]
  · rw [if_neg h, dif_neg h]
    exact congrArg (fun r => x7 (ix2 r k)) (Fin.ext (show (l.val + 1024 - 1) % 1024 = l.val - 1 by omega))

theorem fore_apply (l : Fin 1024) (k : Fin 256) : fore (F := Ideal) x7 x9 (ix2 l k)
    = if h : l.val = 1023 then x9 (ix2 0 k) else x7 (ix2 ⟨l + 1, by omega⟩ k) := by
  have hl := l.isLt
  unfold fore k0_pay6
  pointwise [k0_pay5]
  rw [choose (by omega) (by omega)]
  by_cases h : l.val = 1023
  · rw [if_pos h, dif_pos h]
  · rw [if_neg h, dif_neg h]
    exact congrArg (fun r => x7 (ix2 r k)) (Fin.ext (show (l.val + 1024 - 1023) % 1024 = l.val + 1 by omega))

theorem blend_apply (hi : (i 0).val < 64) (l n : Fin 1024) : blend (F := Ideal) i x0 x1 x5 x6 x7 x8 x9 x10 x11 x12 (ix2 l n)
    = mixed (fun k => x0 (ix2 l k)) (fun k => x1 (ix3 0 5 k)) (groups (fun k => x5 (ix2 l k))
        (fun k => conv3 (x6 (ix2 l k)) (x11 (ix2 0 k)) (x11 (ix2 1 k)) (x11 (ix2 2 k)) (back (F := Ideal) i x7 x8 (ix2 l k)) (x7 (ix2 l k))
          (if (1024 * (i 0).val + l.val) % 4096 = 4095 then 0 else fore (F := Ideal) x7 x9 (ix2 l k)))
        (fun k => x10 (ix2 l k))) (fun k n => x12 (ix3 0 k n)) n := by
  unfold blend k0_pay10
  pointwise [k0_pay2, k0_pay3, k0_pay4, k0_pay5]
  unfold mixed
  refine congrArg (fun z => x0 (ix2 l n) + x1 (ix3 0 5 n) * z) (Finset.sum_congr rfl fun k _ => congrArg (· * x12 (ix3 0 k n)) ?_)
  unfold groups conv3
  refine dite_congr rfl (fun _ => rfl) fun h => ?_
  by_cases h' : k.val < 512
  · rw [dif_pos h', dif_pos (by omega), pos_apply i hi, last_apply i hi, choose (by omega) (by omega)]
    split <;> simp only [mul_zero]
  · rw [dif_neg h', dif_neg (by omega)]
    exact congrArg (fun r => x10 (ix2 l r)) (Fin.ext (show k.val - 256 - 256 = k.val - 512 by omega))

/-- The body's result at an index: the half step of that mixed row, normalised. -/
theorem out_apply (l n : Fin 1024) : out0_14 (F := Ideal) i x0 x1 x2 x3 x4 x5 x6 x7 x8 x9 x10 x11 x12 x13 (ix2 l n)
    = normed (step (fun k => blend (F := Ideal) i x0 x1 x5 x6 x7 x8 x9 x10 x11 x12 (ix2 l k)) (fun k => x2 (ix2 0 k))
        (fun k => x1 (ix3 0 6 k)) (fun k => x1 (ix3 0 7 k)) (fun k => x1 (ix3 0 8 k)) (fun k j => x3 (ix3 0 k j)) (fun j n => x4 (ix3 0 j n)))
      (fun k => x13 (ix2 0 k)) n := by
  rw [out_eq]
  generalize blend (F := Ideal) i x0 x1 x5 x6 x7 x8 x9 x10 x11 x12 = z
  canon_tiles x e <;> obtain ⟨p, q, rfl⟩ : ∃ (p : Fin 512) (q : Fin 1024), x = ix2 p q := ⟨x 0, x 1, eq_ix2 x⟩
  · have el : l = ⟨512 + p, by omega⟩ := Fin.ext e0
    have en : n = q := Fin.ext e1
    rw [gained_apply, funext (rows_apply (bot z) x1 x2 x3 x4 p), el, en]
    simp only [bot_apply]
  · have el : l = ⟨p, by omega⟩ := Fin.ext e0
    have en : n = q := Fin.ext e1
    rw [gained_apply, funext (rows_apply (top z) x1 x2 x3 x4 p), el, en]
    simp only [top_apply]
end

end Cert.MixIdeal.Mix
-- ==== Proof.MixRef.lean ====
module

public import proofs.«01_k».proof.Proof.Gen.MixReferenceIdeal.Read
public import proofs.«01_k».proof.Proof.MixRow

/-! The reference's last layer at an index, from the head groups on: each token by the row functions. -/

@[expose] public section

set_option maxRecDepth 16384

noncomputable section

namespace Cert.MixReferenceIdeal.Mix

open Cert.MixReferenceIdeal Cert.MixReferenceIdeal.Gen Cert.MixReferenceIdeal.Read Cert.HalfStep
open Idealize.ShloMosaic Idealize.ShloMosaic.TcCoe
open Idealize.SL Idealize.SL.Sem

variable (x0 : FVec Ideal S16x4096x1024 .f32) (x1 x2 x3 x4 : FVec Ideal S16x4096x256 .f32) (x5 : FVec Ideal S16x4096x512 .f32)
  (x6 : FVec Ideal S16x9x1024 .f32) (x7 : FVec Ideal S4x3x256 .f32) (x8 : FVec Ideal S4x1024x1024 .f32) (x9 : FVec Ideal S4x1024 .f32)
  (x10 : FVec Ideal S4x1024x5632 .f32) (x11 : FVec Ideal S4x2816x1024 .f32) (x12 : FVec Ideal S1024 .f32)

/-- The convolution's input at a position, and zero beyond either end of the sequence: position `s` is `s + 1` here. -/
def edged (b : Fin 16) (s : Nat) (k : Fin 256) : EReal :=
  if h : 1 ≤ s ∧ s ≤ 4096 then x3 (ix3 b ⟨s - 1, by omega⟩ k) * x4 (ix3 b ⟨s - 1, by omega⟩ k) else 0

/-- The head groups of a token. -/
def heads (b : Fin 16) (s : Fin 4096) : Fin 1024 → EReal :=
  groups (fun k => x1 (ix3 b s k))
    (fun k => conv3 (x2 (ix3 b s k)) (x7 (ix3 3 0 k)) (x7 (ix3 3 1 k)) (x7 (ix3 3 2 k))
      (edged x3 x4 b s k) (edged x3 x4 b (s + 1) k) (edged x3 x4 b (s + 2) k)) (fun k => x5 (ix3 b s k))

/-- A token after the mixing residual. -/
def tok (b : Fin 16) (s : Fin 4096) : Fin 1024 → EReal :=
  mixed (fun k => x0 (ix3 b s k)) (fun k => x6 (ix3 b 5 k)) (heads x1 x2 x3 x4 x5 x7 b s) (fun k n => x8 (ix3 3 k n))

/-! ### The head groups -/

theorem v7_apply (b : Fin 16) (s : Fin 4096) (k : Fin 256) : val_main_v7 (F := Ideal) x3 x4 (ix3 b s k) = edged x3 x4 b s k := by
  pointwise [val_main_v7, val_main_v6, val_main_v3, val_main_v2, val_main_cst]
  unfold edged
  have hs := s.isLt
  by_cases h : s.val < 1
  · rw [dif_pos h, dif_neg (by omega)]
  · rw [dif_neg h, dif_pos ⟨by omega, by omega⟩]

theorem v20_apply (b : Fin 16) (s : Fin 4096) (k : Fin 256) : val_main_v20 (F := Ideal) x3 x4 (ix3 b s k) = edged x3 x4 b (s + 2) k := by
  pointwise [val_main_v20, val_main_v19, val_main_v3, val_main_v2, val_main_cst]
  unfold edged
  by_cases h : s.val < 4095
  · have e : (⟨s.val + 2 - 1, by omega⟩ : Fin 4096) = ⟨1 + s.val, by omega⟩ := Fin.ext (show s.val + 2 - 1 = 1 + s.val by omega)
    rw [dif_pos h, dif_pos ⟨by omega, by omega⟩, e]
  · rw [dif_neg h, dif_neg (by omega)]

theorem v25_apply (b : Fin 16) (s : Fin 4096) (k : Fin 256) : val_main_v25 (F := Ideal) x2 x3 x4 x7 (ix3 b s k)
    = conv3 (x2 (ix3 b s k)) (x7 (ix3 3 0 k)) (x7 (ix3 3 1 k)) (x7 (ix3 3 2 k))
      (edged x3 x4 b s k) (edged x3 x4 b (s + 1) k) (edged x3 x4 b (s + 2) k) := by
  have e : edged x3 x4 b (s + 1) k = x3 (ix3 b s k) * x4 (ix3 b s k) := dif_pos ⟨by omega, by omega⟩
  rw [← v7_apply, ← v20_apply, e]
  unfold conv3
  pointwise [val_main_v25, val_main_v24, val_main_v23, val_main_v22, val_main_v21, val_main_v18, val_main_v17, val_main_v16, val_main_v15,
    val_main_v14, val_main_v13, val_main_v12, val_main_v11, val_main_v10, val_main_v9, val_main_v8, val_main_v5, val_main_v4, val_main_v2,
    val_main_v1, val_main_v0]

theorem v26_apply (b : Fin 16) (s : Fin 4096) (k : Fin 1024) :
    val_main_v26 (F := Ideal) x1 x2 x3 x4 x5 x7 (ix3 b s k) = heads x1 x2 x3 x4 x5 x7 b s k := by
  unfold heads
  simp only [← v25_apply]
  pointwise [val_main_v26]
  unfold groups
  refine dite_congr rfl (fun _ => rfl) fun h => ?_
  by_cases h' : k.val < 512
  · rw [dif_pos h', dif_pos (by omega)]
  · rw [dif_neg h', dif_neg (by omega)]
    exact congrArg (fun r => x5 (ix3 b s r)) (Fin.ext (show k.val - 256 - 256 = k.val - 512 by omega))

theorem v29_apply (b : Fin 16) (s : Fin 4096) (n : Fin 1024) : val_main_v29 (F := Ideal) x1 x2 x3 x4 x5 x7 x8 (ix3 b s n)
    = ∑ k, heads x1 x2 x3 x4 x5 x7 b s k * x8 (ix3 3 k n) := by
  have el : ∀ k, lidx_main_v29 (ix3 b s n) k = ix3 b s k := fun k =>
    funext fun a => Fin.ext (by match a with | ⟨0, _⟩ => rfl | ⟨1, _⟩ => rfl | ⟨2, _⟩ => rfl)
  have er : ∀ k, ridx_main_v29 (ix3 b s n) k = ix2 k n := fun k =>
    funext fun a => Fin.ext (by match a with | ⟨0, _⟩ => rfl | ⟨1, _⟩ => rfl)
  have ew : ∀ k, val_main_v28 (F := Ideal) x8 (ix2 k n) = x8 (ix3 3 k n) := fun k => by
    pointwise [val_main_v28, val_main_v27]
  rw [val_main_v29_apply]
  simp only [el, er, v26_apply, ew]

theorem v35_apply (b : Fin 16) (s : Fin 4096) (n : Fin 1024) :
    val_main_v35 (F := Ideal) x0 x1 x2 x3 x4 x5 x6 x7 x8 (ix3 b s n) = tok x0 x1 x2 x3 x4 x5 x6 x7 x8 b s n := by
  unfold tok mixed
  rw [← v29_apply]
  pointwise [val_main_v35, val_main_v34, val_main_v33, val_main_v32, val_main_v31, val_main_v30]

/-! ### The half step -/

theorem v49_apply (b : Fin 16) (s : Fin 4096) :
    val_main_v49 (F := Ideal) x0 x1 x2 x3 x4 x5 x6 x7 x8 (ix3 b s 0) = scl (tok x0 x1 x2 x3 x4 x5 x6 x7 x8 b s) := by
  have e : ∀ k, idx_main_v43 (idx_main_v44 (ix3 b s 0)) k = ix3 b s k := fun k =>
    funext fun a => Fin.ext (by match a with | ⟨0, _⟩ => rfl | ⟨1, _⟩ => rfl | ⟨2, _⟩ => rfl)
  rw [val_main_v49_apply, val_main_v48_apply, val_main_v46_apply, val_main_v44_apply, val_main_v43_apply, val_main_v45_apply,
    val_main_v47_apply, val_main_cst_0_apply, val_main_cst_1_apply, val_main_cst_2_apply]
  simp only [e, val_main_v42_apply, v35_apply, Ideal.ofBits_def, Ideal.ofBits_zero_f32, Ideal.hostDivf_def, zero_add]
  rfl

/-- A token's row, normalised and modulated. -/
abbrev row (b : Fin 16) (s : Fin 4096) : Fin 1024 → EReal :=
  HalfStep.inner (tok x0 x1 x2 x3 x4 x5 x6 x7 x8 b s) (fun k => x9 (ix2 3 k)) (fun k => x6 (ix3 b 6 k)) (fun k => x6 (ix3 b 7 k))

theorem v66_apply (b : Fin 16) (s : Fin 4096) (k : Fin 1024) :
    val_main_v66 (F := Ideal) x0 x1 x2 x3 x4 x5 x6 x7 x8 x9 (ix3 b s k) = row x0 x1 x2 x3 x4 x5 x6 x7 x8 x9 b s k := by
  unfold row HalfStep.inner
  rw [← v49_apply, ← v35_apply]
  pointwise [val_main_v66, val_main_v65, val_main_v64, val_main_v63, val_main_v62, val_main_v61, val_main_v60, val_main_v59, val_main_v58,
    val_main_cst_3, val_main_v57, val_main_v56, val_main_v55, val_main_v54, val_main_v53, val_main_v52, val_main_v51, val_main_v50,
    val_main_v37, val_main_v36]

theorem v67_apply (b : Fin 16) (s : Fin 4096) (j : Fin 5632) : val_main_v67 (F := Ideal) x0 x1 x2 x3 x4 x5 x6 x7 x8 x9 x10 (ix3 b s j)
    = pre (fun k j => x10 (ix3 3 k j)) (row x0 x1 x2 x3 x4 x5 x6 x7 x8 x9 b s) j := by
  have el : ∀ k, lidx_main_v67 (ix3 b s j) k = ix3 b s k := fun k =>
    funext fun a => Fin.ext (by match a with | ⟨0, _⟩ => rfl | ⟨1, _⟩ => rfl | ⟨2, _⟩ => rfl)
  have er : ∀ k, ridx_main_v67 (ix3 b s j) k = ix2 k j := fun k =>
    funext fun a => Fin.ext (by match a with | ⟨0, _⟩ => rfl | ⟨1, _⟩ => rfl)
  have ew : ∀ k, val_main_v39 (F := Ideal) x10 (ix2 k j) = x10 (ix3 3 k j) := fun k => by
    pointwise [val_main_v39, val_main_v38]
  rw [val_main_v67_apply, pre]
  simp only [el, er, v66_apply, ew]

theorem v71_apply (b : Fin 16) (s : Fin 4096) (j : Fin 2816) : val_main_v71 (F := Ideal) x0 x1 x2 x3 x4 x5 x6 x7 x8 x9 x10 (ix3 b s j)
    = act (fun k j => x10 (ix3 3 k j)) (row x0 x1 x2 x3 x4 x5 x6 x7 x8 x9 b s) j := by
  unfold act
  simp only [← v67_apply]
  pointwise [val_main_v71, val_main_v70, val_main_v69, val_main_v68, val_main_call0_v5, val_main_call0_v4, val_main_call0_v3, val_main_call0_v2,
    val_main_call0_v1, val_main_call0_v0, val_main_call0_cst, val_main_call0_cst_0]
  rfl

theorem v72_apply (b : Fin 16) (s : Fin 4096) (n : Fin 1024) : val_main_v72 (F := Ideal) x0 x1 x2 x3 x4 x5 x6 x7 x8 x9 x10 x11 (ix3 b s n)
    = ∑ j, act (fun k j => x10 (ix3 3 k j)) (row x0 x1 x2 x3 x4 x5 x6 x7 x8 x9 b s) j * x11 (ix3 3 j n) := by
  have el : ∀ k, lidx_main_v72 (ix3 b s n) k = ix3 b s k := fun k =>
    funext fun a => Fin.ext (by match a with | ⟨0, _⟩ => rfl | ⟨1, _⟩ => rfl | ⟨2, _⟩ => rfl)
  have er : ∀ k, ridx_main_v72 (ix3 b s n) k = ix2 k n := fun k =>
    funext fun a => Fin.ext (by match a with | ⟨0, _⟩ => rfl | ⟨1, _⟩ => rfl)
  have ew : ∀ j, val_main_v41 (F := Ideal) x11 (ix2 j n) = x11 (ix3 3 j n) := fun j => by
    pointwise [val_main_v41, val_main_v40]
  rw [val_main_v72_apply]
  simp only [el, er, v71_apply, ew]

/-- A token after the half step. -/
def stepped (b : Fin 16) (s : Fin 4096) : Fin 1024 → EReal :=
  step (tok x0 x1 x2 x3 x4 x5 x6 x7 x8 b s) (fun k => x9 (ix2 3 k)) (fun k => x6 (ix3 b 6 k)) (fun k => x6 (ix3 b 7 k))
    (fun k => x6 (ix3 b 8 k)) (fun k j => x10 (ix3 3 k j)) (fun j n => x11 (ix3 3 j n))

theorem v80_apply (b : Fin 16) (s : Fin 4096) (n : Fin 1024) : val_main_v80 (F := Ideal) x0 x1 x2 x3 x4 x5 x6 x7 x8 x9 x10 x11 (ix3 b s n)
    = stepped x0 x1 x2 x3 x4 x5 x6 x7 x8 x9 x10 x11 b s n := by
  unfold stepped step
  rw [← v72_apply, ← v35_apply]
  pointwise [val_main_v80, val_main_v79, val_main_v78, val_main_v77, val_main_v76, val_main_cst_4, val_main_v75, val_main_v74, val_main_v73]

/-! ### The final norm -/

theorem v88_apply (b : Fin 16) (s : Fin 4096) : val_main_v88 (F := Ideal) x0 x1 x2 x3 x4 x5 x6 x7 x8 x9 x10 x11 (ix3 b s 0)
    = scl (stepped x0 x1 x2 x3 x4 x5 x6 x7 x8 x9 x10 x11 b s) := by
  have e : ∀ k, idx_main_v82 (idx_main_v83 (ix3 b s 0)) k = ix3 b s k := fun k =>
    funext fun a => Fin.ext (by match a with | ⟨0, _⟩ => rfl | ⟨1, _⟩ => rfl | ⟨2, _⟩ => rfl)
  rw [val_main_v88_apply, val_main_v87_apply, val_main_v85_apply, val_main_v83_apply, val_main_v82_apply, val_main_v84_apply,
    val_main_v86_apply, val_main_cst_5_apply, val_main_cst_6_apply, val_main_cst_7_apply]
  simp only [e, val_main_v81_apply, v80_apply, Ideal.ofBits_def, Ideal.ofBits_zero_f32, Ideal.hostDivf_def, zero_add]
  rfl

/-- A token of the reference's result. -/
theorem v93_apply (b : Fin 16) (s : Fin 4096) (n : Fin 1024) : val_main_v93 (F := Ideal) x0 x1 x2 x3 x4 x5 x6 x7 x8 x9 x10 x11 x12 (ix3 b s n)
    = normed (stepped x0 x1 x2 x3 x4 x5 x6 x7 x8 x9 x10 x11 b s) (fun k => x12 (ix1 k)) n := by
  unfold normed
  rw [← v88_apply, ← v80_apply]
  pointwise [val_main_v93, val_main_v92, val_main_v91, val_main_v90, val_main_v89]

theorem v94_apply (R : Fin 65536) (n : Fin 1024) : val_main_v94 (F := Ideal) x0 x1 x2 x3 x4 x5 x6 x7 x8 x9 x10 x11 x12 (ix2 R n)
    = normed (stepped x0 x1 x2 x3 x4 x5 x6 x7 x8 x9 x10 x11 ⟨R / 4096, by omega⟩ ⟨R % 4096, by omega⟩) (fun k => x12 (ix1 k)) n := by
  rw [← v93_apply]
  pointwise [val_main_v94]

end Cert.MixReferenceIdeal.Mix
-- ==== Proof.MixFinal.lean ====
module

public import proofs.«01_k».proof.Proof.MixVoc
public import proofs.«01_k».proof.Proof.MixRef
public import proofs.«01_k».proof.Proof.Gen.MixIdeal.Value
public import Idealize.ShloMosaic.Lib.Claim

/-! The last feed-forward call's result array is the reference's. -/

@[expose] public section

set_option maxRecDepth 16384

noncomputable section

namespace Cert.MixIdeal.Mix

open Cert.MixIdeal Cert.MixIdeal.Gen Cert.HalfStep
open Cert.MixReferenceIdeal.Mix (edged heads tok stepped)
open Idealize.ShloMosaic Idealize.ShloMosaic.TcCoe
open Idealize.SL Idealize.SL.Sem
open Idealize.ShloMosaic.Pipeline (Dat)

section
variable {F : FTy → Type} [FloatOps F]

/-- The tokens, and zeros below them. -/
def toks (a0 : FVec F S16x4096x1024 .f32) : FVec F S69632x1024 .f32 :=
  concatenate S69632x1024 0 [⟨S65536x1024, shapeCast S65536x1024 a0 shapeCasts_S16x4096x1024_S65536x1024⟩,
    ⟨S4096x1024, broadcastInDim S4096x1024 ![] bcast_S_S4096x1024 (constant S_ .f32 0x00000000#32)⟩]
    concatenates_S65536x1024_S4096x1024_S69632x1024_d0
/-- A convolution input's rows, and zeros below them. -/
def convs (a : FVec F S16x4096x256 .f32) : FVec F S69632x256 .f32 :=
  concatenate S69632x256 0 [⟨S65536x256, shapeCast S65536x256 a shapeCasts_S16x4096x256_S65536x256⟩,
    ⟨S4096x256, broadcastInDim S4096x256 ![] bcast_S_S4096x256 (constant S_ .f32 0x00000000#32)⟩]
    concatenates_S65536x256_S4096x256_S69632x256_d0
/-- The modulation of the sequences, and a row of zeros. -/
def mods (a6 : FVec F S16x9x1024 .f32) : FVec F S17x9x1024 .f32 :=
  concatenate S17x9x1024 0 [⟨S16x9x1024, a6⟩,
    ⟨S1x9x1024, broadcastInDim S1x9x1024 ![] bcast_S_S1x9x1024 (constant S_ .f32 0x00000000#32)⟩] concatenates_S16x9x1024_S1x9x1024_S17x9x1024_d0
/-- The Fourier part's rows. -/
def fours (a1 : FVec F S16x4096x256 .f32) : FVec F S65536x256 .bf16 :=
  truncf .bf16 (shapeCast S65536x256 a1 shapeCasts_S16x4096x256_S65536x256 : FVec F S65536x256 .f32) bitsLt_bf16_f32
/-- The attention part's rows. -/
def atts (a5 : FVec F S16x4096x512 .f32) : FVec F S65536x512 .bf16 :=
  truncf .bf16 (shapeCast S65536x512 a5 shapeCasts_S16x4096x512_S65536x512 : FVec F S65536x512 .f32) bitsLt_bf16_f32
/-- The layer's taps. -/
def taps (a7 : FVec F S4x3x256 .f32) : FVec F S3x256 .f32 :=
  shapeCast S3x256 (extractStridedSlice S1x3x256 ![3, 0, 0] a7 slices_S4x3x256_S1x3x256_3_0_0) shapeCasts_S1x3x256_S3x256
/-- The layer's gain. -/
def gain (a9 : FVec F S4x1024 .f32) : FVec F S1x1024 .f32 :=
  shapeCast S1x1024 (shapeCast S1024 (extractStridedSlice S1x1024 ![3, 0] a9 slices_S4x1024_S1x1024_3_0) shapeCasts_S1x1024_S1024) shapeCasts_S1024_S1x1024
/-- The final gain. -/
def last (a12 : FVec F S1024 .f32) : FVec F S1x1024 .f32 := shapeCast S1x1024 a12 shapeCasts_S1024_S1x1024

variable (m : (ℓ : Loc nD τ sig) → Buf (Elt F) ℓ) (c : Dev nD)

theorem V_s : V m c main_v18 = toks (m ((c : Thread nD τ).loc main_arg0)) := by
  unfold V; after_results; try rfl
theorem V_m : V m c main_v1 = mods (m ((c : Thread nD τ).loc main_arg6)) := by
  unfold V; after_results; try rfl
theorem V_g : V m c main_v23 = gain (m ((c : Thread nD τ).loc main_arg9)) := by
  unfold V; after_results; try rfl
theorem V_i : V m c main_v21 = (truncf .bf16 (m ((c : Thread nD τ).loc main_arg10)) bitsLt_bf16_f32 : FVec F S4x1024x5632 .bf16) := by
  unfold V; after_results; try rfl
theorem V_o : V m c main_v22 = (truncf .bf16 (m ((c : Thread nD τ).loc main_arg11)) bitsLt_bf16_f32 : FVec F S4x2816x1024 .bf16) := by
  unfold V; after_results; try rfl
theorem V_f : V m c main_v3 = fours (m ((c : Thread nD τ).loc main_arg1)) := by
  unfold V; after_results; try rfl
theorem V_b : V m c main_v6 = convs (m ((c : Thread nD τ).loc main_arg2)) := by
  unfold V; after_results; try rfl
theorem V_u : V m c main_v10 = convs (mulf (m ((c : Thread nD τ).loc main_arg3)) (m ((c : Thread nD τ).loc main_arg4))) := by
  unfold V; after_results; try rfl
theorem V_a : V m c main_v12 = atts (m ((c : Thread nD τ).loc main_arg5)) := by
  unfold V; after_results; try rfl
theorem V_t : V m c main_v14 = taps (m ((c : Thread nD τ).loc main_arg7)) := by
  unfold V; after_results; try rfl
theorem V_p : V m c main_v15 = (truncf .bf16 (m ((c : Thread nD τ).loc main_arg8)) bitsLt_bf16_f32 : FVec F S4x1024x1024 .bf16) := by
  unfold V; after_results; try rfl
theorem V_l : V m c main_v24 = last (m ((c : Thread nD τ).loc main_arg12)) := by
  unfold V; after_results; try rfl
end

section
variable (a0 : FVec Ideal S16x4096x1024 .f32) (a : FVec Ideal S16x4096x256 .f32) (a5 : FVec Ideal S16x4096x512 .f32)
  (a6 : FVec Ideal S16x9x1024 .f32) (a7 : FVec Ideal S4x3x256 .f32) (a9 : FVec Ideal S4x1024 .f32) (a12 : FVec Ideal S1024 .f32)

theorem toks_apply (R : Fin 69632) (hR : R.val < 65536) (k : Fin 1024) :
    toks (F := Ideal) a0 (ix2 R k) = a0 (ix3 ⟨R / 4096, by omega⟩ ⟨R % 4096, by omega⟩ k) := by
  pointwise [toks]
  rw [dif_pos hR]

theorem convs_apply (R : Fin 69632) (hR : R.val < 65536) (k : Fin 256) :
    convs (F := Ideal) a (ix2 R k) = a (ix3 ⟨R / 4096, by omega⟩ ⟨R % 4096, by omega⟩ k) := by
  pointwise [convs]
  rw [dif_pos hR]

theorem mods_apply (b : Fin 17) (hb : b.val < 16) (i : Fin 9) (k : Fin 1024) :
    mods (F := Ideal) a6 (ix3 b i k) = a6 (ix3 ⟨b, hb⟩ i k) := by
  pointwise [mods]
  rw [dif_pos hb]

theorem fours_apply (R : Fin 65536) (k : Fin 256) :
    fours (F := Ideal) a (ix2 R k) = a (ix3 ⟨R / 4096, by omega⟩ ⟨R % 4096, by omega⟩ k) := by
  pointwise [fours]

theorem atts_apply (R : Fin 65536) (k : Fin 512) :
    atts (F := Ideal) a5 (ix2 R k) = a5 (ix3 ⟨R / 4096, by omega⟩ ⟨R % 4096, by omega⟩ k) := by
  pointwise [atts]

theorem taps_apply (i : Fin 3) (k : Fin 256) : taps (F := Ideal) a7 (ix2 i k) = a7 (ix3 3 i k) := by
  pointwise [taps]

theorem gain_apply (k : Fin 1024) : gain (F := Ideal) a9 (ix2 0 k) = a9 (ix2 3 k) := by
  pointwise [gain]

theorem last_row (k : Fin 1024) : last (F := Ideal) a12 (ix2 0 k) = a12 (ix1 k) := by
  pointwise [last]

end

variable (m : (ℓ : Loc nD τ sig) → Buf (Elt Ideal) ℓ) (c : Dev nD)

theorem pt : ∀ t : Fin cfg0.N, t.val < 64 ∧ ((grid0.coords t) 0).val = t.val :=
  (by decide +kernel : ∀ t : Fin grid0.N, _)

theorem idx : ∀ t : Fin cfg0.N, win0_0.index t = ![t.val, 0] ∧ win0_1.index t = ![t.val / 4, 0, 0]
    ∧ win0_2.index t = ![0, 0] ∧ win0_3.index t = ![3, 0, 0] ∧ win0_4.index t = ![3, 0, 0]
    ∧ win0_5.index t = ![t.val, 0] ∧ win0_6.index t = ![t.val, 0] ∧ win0_7.index t = ![t.val, 0]
    ∧ win0_8.index t = ![128 * t.val - 1, 0] ∧ win0_9.index t = ![128 * t.val + 128, 0]
    ∧ win0_10.index t = ![t.val, 0] ∧ win0_11.index t = ![0, 0] ∧ win0_12.index t = ![3, 0, 0]
    ∧ win0_13.index t = ![0, 0] ∧ win0_14.index t = ![t.val, 0] :=
  (by decide +kernel : ∀ t : Fin grid0.N, _)

/-- The place of a block's row among the tokens. -/
def rr (t : Fin cfg0.N) (l : Fin 1024) : Fin 65536 := ⟨1024 * t.val + l.val, by have := (pt t).1; omega⟩
/-- The place of a block's row among all rows. -/
def ra (t : Fin cfg0.N) (l : Fin 1024) : Fin 69632 := ⟨1024 * t.val + l.val, by have := (pt t).1; omega⟩
/-- The row before a block. -/
def rb (t : Fin cfg0.N) : Fin 69632 := ⟨8 * (128 * t.val - 1) + 7, by have := (pt t).1; omega⟩
/-- The row after a block. -/
def rn (t : Fin cfg0.N) : Fin 69632 := ⟨1024 * t.val + 1024, by have := (pt t).1; omega⟩
/-- The sequence of a block's row. -/
def sq (t : Fin cfg0.N) : Fin 17 := ⟨t.val / 4, by have := (pt t).1; omega⟩
/-- The sequence of a row. -/
abbrev bb (t : Fin cfg0.N) (l : Fin 1024) : Fin 16 := ⟨(rr t l).val / 4096, by omega⟩
/-- The position of a row in its sequence. -/
abbrev ss (t : Fin cfg0.N) (l : Fin 1024) : Fin 4096 := ⟨(rr t l).val % 4096, by omega⟩

theorem blk0 (t : Fin cfg0.N) (l k : Fin 1024) : (iblk m c 0 t : FVec Ideal S1024x1024 .f32) (ix2 l k)
    = (m ((c : Thread nD τ).loc main_arg0) : FVec Ideal S16x4096x1024 .f32) (ix3 (bb t l) (ss t l) k) := by
  refine Eq.trans ?_ ((congrFun (V_s m c) (ix2 (ra t l) k)).trans (toks_apply _ (ra t l) (rr t l).isLt k))
  blk_simp [iblk]
  blk_ext [idx t, ra]

theorem blk1 (t : Fin cfg0.N) (l : Fin 1024) (i : Fin 9) (k : Fin 1024) : (iblk m c 1 t : FVec Ideal S1x9x1024 .f32) (ix3 0 i k)
    = (m ((c : Thread nD τ).loc main_arg6) : FVec Ideal S16x9x1024 .f32) (ix3 (bb t l) i k) := by
  have ht := (pt t).1
  have hb : (sq t).val < 16 := by simp only [sq]; omega
  have e : (⟨(sq t).val, hb⟩ : Fin 16) = bb t l := Fin.ext (by simp only [sq, bb, rr]; omega)
  rw [← e]
  refine Eq.trans ?_ ((congrFun (V_m m c) (ix3 (sq t) i k)).trans (mods_apply _ (sq t) hb i k))
  blk_simp [iblk]
  blk_ext [idx t, sq]

theorem blk2 (t : Fin cfg0.N) (k : Fin 1024) : (iblk m c 2 t : FVec Ideal S1x1024 .f32) (ix2 0 k)
    = (m ((c : Thread nD τ).loc main_arg9) : FVec Ideal S4x1024 .f32) (ix2 3 k) := by
  refine Eq.trans ?_ ((congrFun (V_g m c) (ix2 0 k)).trans (gain_apply _ k))
  blk_simp [iblk]
  blk_ext [idx t]

theorem blk3 (t : Fin cfg0.N) (k : Fin 1024) (j : Fin 5632) : (iblk m c 3 t : FVec Ideal S1x1024x5632 .bf16) (ix3 0 k j)
    = (m ((c : Thread nD τ).loc main_arg10) : FVec Ideal S4x1024x5632 .f32) (ix3 3 k j) := by
  refine Eq.trans ?_ (congrFun (V_i m c) (ix3 3 k j))
  blk_simp [iblk]
  blk_ext [idx t]

theorem blk4 (t : Fin cfg0.N) (j : Fin 2816) (n : Fin 1024) : (iblk m c 4 t : FVec Ideal S1x2816x1024 .bf16) (ix3 0 j n)
    = (m ((c : Thread nD τ).loc main_arg11) : FVec Ideal S4x2816x1024 .f32) (ix3 3 j n) := by
  refine Eq.trans ?_ (congrFun (V_o m c) (ix3 3 j n))
  blk_simp [iblk]
  blk_ext [idx t]

theorem blk5 (t : Fin cfg0.N) (l : Fin 1024) (k : Fin 256) : (iblk m c 5 t : FVec Ideal S1024x256 .bf16) (ix2 l k)
    = (m ((c : Thread nD τ).loc main_arg1) : FVec Ideal S16x4096x256 .f32) (ix3 (bb t l) (ss t l) k) := by
  refine Eq.trans ?_ ((congrFun (V_f m c) (ix2 (rr t l) k)).trans (fours_apply _ (rr t l) k))
  blk_simp [iblk]
  blk_ext [idx t, rr]

theorem blk6 (t : Fin cfg0.N) (l : Fin 1024) (k : Fin 256) : (iblk m c 6 t : FVec Ideal S1024x256 .f32) (ix2 l k)
    = (m ((c : Thread nD τ).loc main_arg2) : FVec Ideal S16x4096x256 .f32) (ix3 (bb t l) (ss t l) k) := by
  refine Eq.trans ?_ ((congrFun (V_b m c) (ix2 (ra t l) k)).trans (convs_apply _ (ra t l) (rr t l).isLt k))
  blk_simp [iblk]
  blk_ext [idx t, ra]

/-- The convolution's input. -/
abbrev uu : FVec Ideal S16x4096x256 .f32 := mulf (m ((c : Thread nD τ).loc main_arg3)) (m ((c : Thread nD τ).loc main_arg4))

theorem blk7 (t : Fin cfg0.N) (l : Fin 1024) (k : Fin 256) : (iblk m c 7 t : FVec Ideal S1024x256 .f32) (ix2 l k)
    = uu m c (ix3 (bb t l) (ss t l) k) := by
  refine Eq.trans ?_ ((congrFun (V_u m c) (ix2 (ra t l) k)).trans (convs_apply _ (ra t l) (rr t l).isLt k))
  blk_simp [iblk]
  blk_ext [idx t, ra]

theorem blk8 (t : Fin cfg0.N) (k : Fin 256) : (iblk m c 8 t : FVec Ideal S8x256 .f32) (ix2 7 k)
    = convs (F := Ideal) (uu m c) (ix2 (rb t) k) := by
  rw [← V_u]
  blk_simp [iblk]
  blk_ext [idx t, rb]

theorem blk9 (t : Fin cfg0.N) (k : Fin 256) : (iblk m c 9 t : FVec Ideal S8x256 .f32) (ix2 0 k)
    = convs (F := Ideal) (uu m c) (ix2 (rn t) k) := by
  rw [← V_u]
  blk_simp [iblk]
  blk_ext [idx t, rn]

theorem blk10 (t : Fin cfg0.N) (l : Fin 1024) (k : Fin 512) : (iblk m c 10 t : FVec Ideal S1024x512 .bf16) (ix2 l k)
    = (m ((c : Thread nD τ).loc main_arg5) : FVec Ideal S16x4096x512 .f32) (ix3 (bb t l) (ss t l) k) := by
  refine Eq.trans ?_ ((congrFun (V_a m c) (ix2 (rr t l) k)).trans (atts_apply _ (rr t l) k))
  blk_simp [iblk]
  blk_ext [idx t, rr]

theorem blk11 (t : Fin cfg0.N) (i : Fin 3) (k : Fin 256) : (iblk m c 11 t : FVec Ideal S3x256 .f32) (ix2 i k)
    = (m ((c : Thread nD τ).loc main_arg7) : FVec Ideal S4x3x256 .f32) (ix3 3 i k) := by
  refine Eq.trans ?_ ((congrFun (V_t m c) (ix2 i k)).trans (taps_apply _ i k))
  blk_simp [iblk]
  blk_ext [idx t]

theorem blk12 (t : Fin cfg0.N) (k n : Fin 1024) : (iblk m c 12 t : FVec Ideal S1x1024x1024 .bf16) (ix3 0 k n)
    = (m ((c : Thread nD τ).loc main_arg8) : FVec Ideal S4x1024x1024 .f32) (ix3 3 k n) := by
  refine Eq.trans ?_ (congrFun (V_p m c) (ix3 3 k n))
  blk_simp [iblk]
  blk_ext [idx t]

theorem blk13 (t : Fin cfg0.N) (k : Fin 1024) : (iblk m c 13 t : FVec Ideal S1x1024 .f32) (ix2 0 k)
    = (m ((c : Thread nD τ).loc main_arg12) : FVec Ideal S1024 .f32) (ix1 k) := by
  refine Eq.trans ?_ ((congrFun (V_l m c) (ix2 0 k)).trans (last_row _ k))
  blk_simp [iblk]
  blk_ext [idx t]

/-! ### The convolution at the seams of the blocks -/

/-- A row of the convolution's input, read at another row of the same sequence. -/
theorem uu_at (R : Fin 69632) (b : Fin 16) (s : Nat) (k : Fin 256) (hs : 1 ≤ s ∧ s ≤ 4096) (h : R.val = 4096 * b.val + (s - 1)) :
    convs (F := Ideal) (uu m c) (ix2 R k)
      = edged (m ((c : Thread nD τ).loc main_arg3)) (m ((c : Thread nD τ).loc main_arg4)) b s k := by
  have hb := b.isLt
  have e : (⟨R / 4096, by omega⟩ : Fin 16) = b := Fin.ext (show R.val / 4096 = b.val by omega)
  have e' : (⟨R % 4096, by omega⟩ : Fin 4096) = ⟨s - 1, by omega⟩ := Fin.ext (show R.val % 4096 = s - 1 by omega)
  rw [convs_apply _ R (by omega), e, e', edged, dif_pos hs]
  rfl

theorem back_edge (t : Fin cfg0.N) (l : Fin 1024) (k : Fin 256) :
    back (F := Ideal) (grid0.coords t) (iblk m c 7 t) (iblk m c 8 t) (ix2 l k)
      = edged (m ((c : Thread nD τ).loc main_arg3)) (m ((c : Thread nD τ).loc main_arg4)) (bb t l) (ss t l) k := by
  have ht := pt t
  have hl := l.isLt
  refine (back_apply _ _ _ (by omega) l k).trans ?_
  rw [ht.2]
  by_cases h : (1024 * t.val + l.val) % 4096 = 0
  · rw [if_pos h, edged, dif_neg (by simp only [ss, rr]; omega)]
  · rw [if_neg h]
    by_cases h' : l.val = 0
    · rw [dif_pos h', blk8]
      exact uu_at m c _ _ _ k (by simp only [ss, rr]; omega) (by simp only [ss, bb, rr, rb]; omega)
    · rw [dif_neg h', blk7]
      refine (convs_apply (uu m c) (ra t ⟨l - 1, by omega⟩) (rr t ⟨l - 1, by omega⟩).isLt k).symm.trans ?_
      exact uu_at m c _ _ _ k (by simp only [ss, rr]; omega) (by simp only [ss, bb, rr, ra]; omega)

theorem fore_edge (t : Fin cfg0.N) (l : Fin 1024) (k : Fin 256) :
    (if (1024 * t.val + l.val) % 4096 = 4095 then 0 else fore (F := Ideal) (iblk m c 7 t) (iblk m c 9 t) (ix2 l k))
      = edged (m ((c : Thread nD τ).loc main_arg3)) (m ((c : Thread nD τ).loc main_arg4)) (bb t l) ((ss t l).val + 2) k := by
  have ht := pt t
  have hl := l.isLt
  by_cases h : (1024 * t.val + l.val) % 4096 = 4095
  · rw [if_pos h, edged, dif_neg (by simp only [ss, rr]; omega)]
  · rw [if_neg h]
    refine (fore_apply _ _ l k).trans ?_
    by_cases h' : l.val = 1023
    · rw [dif_pos h', blk9]
      exact uu_at m c _ _ _ k (by simp only [ss, rr]; omega) (by simp only [ss, bb, rr, rn]; omega)
    · rw [dif_neg h', blk7]
      refine (convs_apply (uu m c) (ra t ⟨l + 1, by omega⟩) (rr t ⟨l + 1, by omega⟩).isLt k).symm.trans ?_
      exact uu_at m c _ _ _ k (by simp only [ss, rr]; omega) (by simp only [ss, bb, rr, ra]; omega)

theorem self_edge (t : Fin cfg0.N) (l : Fin 1024) (k : Fin 256) : (iblk m c 7 t : FVec Ideal S1024x256 .f32) (ix2 l k)
    = edged (m ((c : Thread nD τ).loc main_arg3)) (m ((c : Thread nD τ).loc main_arg4)) (bb t l) ((ss t l).val + 1) k := by
  rw [blk7]
  refine (convs_apply (uu m c) (ra t l) (rr t l).isLt k).symm.trans ?_
  exact uu_at m c _ _ _ k (by simp only [ss]; omega) (by simp only [ss, bb, rr, ra]; omega)

/-! ### The rows -/

/-- A mixed row of a block is the reference's token. -/
theorem blend_tok (t : Fin cfg0.N) (l n : Fin 1024) :
    blend (F := Ideal) (grid0.coords t) (iblk m c 0 t) (iblk m c 1 t) (iblk m c 5 t) (iblk m c 6 t) (iblk m c 7 t) (iblk m c 8 t)
        (iblk m c 9 t) (iblk m c 10 t) (iblk m c 11 t) (iblk m c 12 t) (ix2 l n)
      = tok (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (bb t l) (ss t l) n := by
  have ht := pt t
  refine (blend_apply _ _ _ _ _ _ _ _ _ _ _ (by omega) l n).trans ?_
  rw [ht.2]
  simp only [fore_edge, back_edge, self_edge, blk0, blk1 m c t l, blk5, blk6, blk10, blk11, blk12]
  rfl

/-- The blocks that the points write make up the array. -/
theorem covers : (cfg0.win 14).Covers := by decide +kernel

/-- The place of a block's index. -/
theorem emb14 (t : Fin cfg0.N) (l n : Fin 1024) :
    (((cfg0.win 14).blk t).view.emb (ix2 l n) : S65536x1024.Idx) = ix2 (rr t l) n := by
  blk_ext [idx t, rr]

/-- The array after a run holds, at the place of each block, what the point left. -/
theorem arr14 (dat : Dat τ (Elt Ideal) Unit ℕ (UR sig nD τ) ℕ cfg0 c) (G : FVec Ideal S65536x1024 .f32)
    (hX : ∀ (t : Fin cfg0.N) (l n : Fin 1024),
      (dat.after 14 t : FVec Ideal S1024x1024 .f32) (ix2 l n) = G (((cfg0.win 14).blk t).view.emb (ix2 l n))) :
    dat.arrAt 14 cfg0.N = G := by
  refine dat.arrAt_eq_of_covers 14 G covers fun t _ y => ?_
  obtain ⟨l, n, rfl⟩ : ∃ (l n : Fin 1024), y = ix2 l n := ⟨y 0, y 1, eq_ix2 y⟩
  exact hX t l n

/-- What a grid point leaves, at an index. -/
theorem after_apply (t : Fin cfg0.N) (l n : Fin 1024) :
    ((dats m 0 c).after 14 t : FVec Ideal S1024x1024 .f32) (ix2 l n)
      = Cert.MixReferenceIdeal.Read.val_main_v94 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (ix2 (rr t l) n) := by
  rw [after0_14]
  refine (out_apply _ _ _ _ _ _ _ _ _ _ _ _ _ _ _ l n).trans ?_
  rw [Cert.MixReferenceIdeal.Mix.v94_apply]
  simp only [blend_tok, blk1 m c t l, blk2, blk3, blk4, blk13]
  rfl

/-- The result array after the run is the reference's. -/
theorem final : (dats m 0 c).arrAt 14 (cfgs 0).N
      = Cert.MixReferenceIdeal.Read.val_main_v94 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) :=
  arr14 c (dats m 0 c) _ fun t l n => (after_apply m c t l n).trans (congrArg _ (emb14 t l n).symm)

end Cert.MixIdeal.Mix
-- ==== Proof.lean ====
module

public import proofs.«01_k».proof.Defs
public import proofs.«01_k».proof.Proof.Run
public import proofs.«01_k».proof.Proof.Final
public import proofs.«01_k».proof.Proof.Finite
public import proofs.«01_k».proof.Proof.FfnFinal
public import proofs.«01_k».proof.Proof.MixFinal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.MixIdeal
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import Idealize.ShloMosaic.Adequacy
public import Idealize.ShloMosaic.Init
public import Idealize.ShloMosaic.Lib.Claim

/-! The certificate: the programs run and leave their arguments, and where the queries and keys are finite
    the attention kernel leaves the reference's array; the two feed-forward kernels leave the reference's arrays. -/

@[expose] public section

set_option maxRecDepth 16384

noncomputable section

namespace Cert.Proof

open Idealize.ShloMosaic Idealize.SL.Sem Idealize.ShloMosaic.TcCoe Idealize.ShloMosaic.Tactic

section
open Cert.KernelIdeal Cert.KernelIdeal.Gen Cert.KernelIdeal.Attn
variable {F : FTy → Type} [FloatOps F] (m : (ℓ : Loc nD τ sig) → Buf (Elt F) ℓ) (ρ : Dev nD → PrngReg)

theorem run_post : θ_run (defs (F := F)) (onTc (τ := τ) (main (F := F))) ⟨m, fun _ => 0, ρ⟩ (Pipeline.FramePost cfgs (dats m) 0 (V m)) :=
  (θ_run defs _ _).mono (fun _ h => h.1) (run_main m ρ)

/-- The program runs, leaves its arguments, and its counters are zero. -/
theorem args_kept : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) := by
  exact θ_run_with_sems (frame_of m ρ (dats m) (fun _ _ => rfl)) (run_main m ρ)

end

theorem frame_kernelIdeal : Cert.quiescent_KernelIdeal := by
  intro m g _
  exact args_kept m g

theorem frame_kernelIdeal_pre : Cert.quiescent_KernelIdeal_pre_finite_qk := fun m g _ => frame_kernelIdeal m g trivial

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_referenceIdeal_pre : Cert.quiescent_ReferenceIdeal_pre_finite_qk := fun m g _ => frame_referenceIdeal m g trivial

/-- The two printed programs have one text, so the run of the one is the run of the other. -/
theorem frame_kernel : Cert.quiescent_Kernel := by
  intro m g _
  refine cast ?_ (args_kept (F := Bits) m g)
  sl_kernel_rfl

/-- Over arrays with real queries and keys, what the kernel leaves is the reference's array. -/
theorem value (m : (ℓ : Loc Cert.KernelIdeal.nD Cert.KernelIdeal.τ Cert.KernelIdeal.sig) → Buf (Elt Ideal) ℓ)
    (hpre : Cert.Pre_KernelIdeal_finite_qk m) (c : Dev Cert.KernelIdeal.nD) :
    (Cert.KernelIdeal.Attn.dats m 0 c).arrAt 5 (Cert.KernelIdeal.cfgs 0).N
      = Cert.ReferenceIdeal.Read.val_main_v23 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨h0, h1, h2, h3, h5, h6⟩ := Cert.Finite.reals _ _ _ _ _ _ _ _ (hpre c)
  refine Cert.KernelIdeal.Attn.final m c _ _ _ _ _ _ h0 h1 h2 h3 h5 h6 _ fun b s h d => ?_
  rw [h0, h1, h2, h3, h5, h6]
  exact Cert.ReferenceIdeal.Attn.value _ _ _ _ _ _ _ _ b s h d

theorem algebraic : Cert.algebraic_KernelIdeal_ReferenceIdeal_pre_finite_qk := by
  pair_intro
  · run_from run_post m g
  · run_from Cert.ReferenceIdeal.Value.run m' g'
    obtain ⟨e0, e1, e2, e3, e4, e5, e6, e7⟩ := hagree c
    refine (Cert.ReferenceIdeal.Read.val_main_v23_eq m' c).trans ?_
    rw [value m hpre c, e0, e1, e2, e3, e4, e5, e6, e7]

/-! ### The feed-forward call -/

theorem frame_ffnIdeal : Cert.quiescent_FfnIdeal := fun m g _ => Cert.FfnIdeal.Gen.frame m g

theorem frame_ffn : Cert.quiescent_Ffn := by
  intro m g _
  refine cast ?_ (Cert.FfnIdeal.Gen.frame (F := Bits) m g)
  sl_kernel_rfl

theorem frame_ffnReferenceIdeal : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run m g)

theorem algebraic_ffn : Cert.algebraic_FfnIdeal_FfnReferenceIdeal := by
  pair_intro
  · run_from Cert.FfnIdeal.Value.run_blocks m g
  · run_from Cert.FfnReferenceIdeal.Value.run m' g'
    obtain ⟨e0, e1, e2, e3, e4, e5, e6⟩ := hagree c
    refine (Cert.FfnReferenceIdeal.Read.val_main_v92_eq m' c).trans ?_
    rw [Cert.FfnIdeal.Step.final m c, e0, e1, e2, e3, e4, e5, e6]

/-! ### The last feed-forward call -/

theorem frame_mixIdeal : Cert.quiescent_MixIdeal := fun m g _ => Cert.MixIdeal.Gen.frame m g

theorem frame_mix : Cert.quiescent_Mix := by
  intro m g _
  refine cast ?_ (Cert.MixIdeal.Gen.frame (F := Bits) m g)
  sl_kernel_rfl

theorem frame_mixReferenceIdeal : Cert.quiescent_MixReferenceIdeal := fun m g _ =>
  (θ_run Cert.MixReferenceIdeal.defs _ _).mono (fun r h => ⟨fun c => (h c).2, sem_eq_zero_of_no_sems (by decide) r.2⟩)
    (Cert.MixReferenceIdeal.Value.run m g)

theorem algebraic_mix : Cert.algebraic_MixIdeal_MixReferenceIdeal := by
  pair_intro
  · run_from Cert.MixIdeal.Value.run_blocks m g
  · run_from Cert.MixReferenceIdeal.Value.run m' g'
    obtain ⟨e0, e1, e2, e3, e4, e5, e6, e7, e8, e9, e10, e11, e12⟩ := hagree c
    rw [← e12]
    refine (Cert.MixReferenceIdeal.Read.val_main_v94_eq (StableHlo.launchContents m' c)).trans ?_
    rw [Cert.MixIdeal.Mix.final m c, ← e0, ← e1, ← e2, ← e3, ← e4, ← e5, ← e6, ← e7, ← e8, ← e9, ← e10, ← e11, ← e12] <;> rfl

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts, Cert.Pre_finite_qk.Gen.facts,
    frame_kernel, frame_kernelIdeal, frame_kernelIdeal_pre, frame_referenceIdeal, frame_referenceIdeal_pre,
    frame_ffn, frame_ffnIdeal, frame_ffnReferenceIdeal, frame_mix, frame_mixIdeal, frame_mixReferenceIdeal,
    trivial, algebraic, trivial, algebraic_ffn, trivial, algebraic_mix⟩

end Cert.Proof

end
